-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_top_distinct_KernelIdeal [hPre_top_distinct_KernelIdeal : Cert.Pre_top_distinct_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_top_distinct_KernelIdeal.fn (F := Ideal) (m ((c.tc : Thread Cert.KernelIdeal.nD Cert.KernelIdeal.τ).loc Cert.KernelIdeal.main_arg0))).1 = (fun _ => 1#1)
    ∧ (Cert.Pre_top_distinct_KernelIdeal.fn (F := Ideal) (m ((c.tc : Thread Cert.KernelIdeal.nD Cert.KernelIdeal.τ).loc Cert.KernelIdeal.main_arg0))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top_distinct_ReferenceIdeal [hPre_top_distinct_ReferenceIdeal : Cert.Pre_top_distinct_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top_distinct_ReferenceIdeal.fn (F := Ideal) (m ((c.tc : Thread Cert.ReferenceIdeal.nD Cert.ReferenceIdeal.τ).loc Cert.ReferenceIdeal.main_arg0))).1 = (fun _ => 1#1)
    ∧ (Cert.Pre_top_distinct_ReferenceIdeal.fn (F := Ideal) (m ((c.tc : Thread Cert.ReferenceIdeal.nD Cert.ReferenceIdeal.τ).loc Cert.ReferenceIdeal.main_arg0))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_top_distinct_KernelIdeal [hKernelIdeal : Cert.KernelIdeal.Facts] [hPre_top_distinct_KernelIdeal : Cert.Pre_top_distinct_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_top_distinct_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_top_distinct_ReferenceIdeal [hReferenceIdeal : Cert.ReferenceIdeal.Facts] [hPre_top_distinct_ReferenceIdeal : Cert.Pre_top_distinct_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top_distinct_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_top_distinct_KernelIdeal [hKernelIdeal : Cert.KernelIdeal.Facts] [hReferenceIdeal : Cert.ReferenceIdeal.Facts] [hPre_top_distinct_KernelIdeal : Cert.Pre_top_distinct_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_top_distinct_KernelIdeal m →
    (∀ c : Dev Cert.KernelIdeal.nD,
      m ((c.tc : Thread Cert.KernelIdeal.nD Cert.KernelIdeal.τ).loc Cert.KernelIdeal.main_arg0) = Layout.blockN ⟨2, ![1024, 8192]⟩ ⟨2, ![1024, 16384]⟩ (Layout.meshBlock [2, 2, 4] ![[], [0]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_top_distinct_KernelIdeal : Cert.Pre_top_distinct_KernelIdeal.Facts) (hPre_top_distinct_ReferenceIdeal : Cert.Pre_top_distinct_ReferenceIdeal.Facts),
    quiescent_Kernel (hKernel := hKernel)
    ∧ quiescent_KernelIdeal (hKernelIdeal := hKernelIdeal)
    ∧ quiescent_KernelIdeal_pre_top_distinct_KernelIdeal (hKernelIdeal := hKernelIdeal) (hPre_top_distinct_KernelIdeal := hPre_top_distinct_KernelIdeal)
    ∧ quiescent_ReferenceIdeal (hReferenceIdeal := hReferenceIdeal)
    ∧ quiescent_ReferenceIdeal_pre_top_distinct_ReferenceIdeal (hReferenceIdeal := hReferenceIdeal) (hPre_top_distinct_ReferenceIdeal := hPre_top_distinct_ReferenceIdeal)
    ∧ preserves_Kernel_KernelIdeal
    ∧ algebraic_KernelIdeal_ReferenceIdeal_pre_top_distinct_KernelIdeal (hKernelIdeal := hKernelIdeal) (hReferenceIdeal := hReferenceIdeal) (hPre_top_distinct_KernelIdeal := hPre_top_distinct_KernelIdeal)
-- ==== Pre_top_distinct_KernelIdeal.lean ====
abbrev S1024x8192 : Shape := ⟨2, ![1024, 8192]⟩
abbrev S1024x8x1024 : Shape := ⟨3, ![1024, 8, 1024]⟩
abbrev S1024x8x32 : Shape := ⟨3, ![1024, 8, 32]⟩
abbrev S1024x8x31 : Shape := ⟨3, ![1024, 8, 31]⟩
abbrev S1024x8x1 : Shape := ⟨3, ![1024, 8, 1]⟩
abbrev S_ : Shape := ⟨0, ![]⟩

class Facts : Prop where
  shapeCasts_S1024x8192_S1024x8x1024 : S1024x8192.ShapeCasts S1024x8x1024
  slices_S1024x8x1024_S1024x8x32_0_0_992 : S1024x8x1024.Slices ![0, 0, 992] S1024x8x32
  slices_S1024x8x32_S1024x8x31_0_0_1 : S1024x8x32.Slices ![0, 0, 1] S1024x8x31
  slices_S1024x8x32_S1024x8x31_0_0_0 : S1024x8x32.Slices ![0, 0, 0] S1024x8x31
  slices_S1024x8x32_S1024x8x1_0_0_0 : S1024x8x32.Slices ![0, 0, 0] S1024x8x1
  bcast_S_S1024x8x1 : S_.BroadcastsInDim S1024x8x1 (![] : Fin 0 → Fin S1024x8x1.rank)

variable [Facts]

variable {F : FTy → Type} [FloatOps F]
def comparator_f32_d2 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S1024x8x1024 .f32) : FVec F S1024x8x1024 .f32 :=
  let v0 : FVec F S1024x8x1024 .f32 := (fun x => Host.sort S1024x8x1024 2 comparator_f32_d2 x) arg0
  v0

def fn {F : FTy → Type} [FloatOps F] (main_arg0 : FVec F S1024x8192 .f32) : IVec S1024x8x31 1 × IVec S1024x8x1 1 :=
  let main_v0 : FVec F S1024x8x1024 .f32 := shapeCast S1024x8x1024 main_arg0 shapeCasts_S1024x8192_S1024x8x1024
  let main_v1 : FVec F S1024x8x1024 .f32 := fn_sort (F := F) main_v0
  let main_v2 : FVec F S1024x8x32 .f32 := (extractStridedSlice S1024x8x32 ![0, 0, 992] · slices_S1024x8x1024_S1024x8x32_0_0_992) main_v1
  let main_v3 : FVec F S1024x8x31 .f32 := (extractStridedSlice S1024x8x31 ![0, 0, 1] · slices_S1024x8x32_S1024x8x31_0_0_1) main_v2
  let main_v4 : FVec F S1024x8x31 .f32 := (extractStridedSlice S1024x8x31 ![0, 0, 0] · slices_S1024x8x32_S1024x8x31_0_0_0) main_v2
  let main_v5 : IVec S1024x8x31 1 := cmpf .ogt main_v3 main_v4
  let main_v6 : FVec F S1024x8x1 .f32 := (extractStridedSlice S1024x8x1 ![0, 0, 0] · slices_S1024x8x32_S1024x8x1_0_0_0) main_v2
  let main_cst : FVec F S_ .f32 := constant S_ .f32 0xFF7FFFFF#32
  let main_v7 : FVec F S1024x8x1 .f32 := broadcastInDim S1024x8x1 ![] bcast_S_S1024x8x1 main_cst
  let main_v8 : IVec S1024x8x1 1 := cmpf .oge main_v6 main_v7
  (main_v5, main_v8)
-- ==== Pre_top_distinct_ReferenceIdeal.lean ====
abbrev S1024x16384 : Shape := ⟨2, ![1024, 16384]⟩
abbrev S1024x16x1024 : Shape := ⟨3, ![1024, 16, 1024]⟩
abbrev S1024x16x32 : Shape := ⟨3, ![1024, 16, 32]⟩
abbrev S1024x16x31 : Shape := ⟨3, ![1024, 16, 31]⟩
abbrev S1024x16x1 : Shape := ⟨3, ![1024, 16, 1]⟩
abbrev S_ : Shape := ⟨0, ![]⟩

class Facts : Prop where
  shapeCasts_S1024x16384_S1024x16x1024 : S1024x16384.ShapeCasts S1024x16x1024
  slices_S1024x16x1024_S1024x16x32_0_0_992 : S1024x16x1024.Slices ![0, 0, 992] S1024x16x32
  slices_S1024x16x32_S1024x16x31_0_0_1 : S1024x16x32.Slices ![0, 0, 1] S1024x16x31
  slices_S1024x16x32_S1024x16x31_0_0_0 : S1024x16x32.Slices ![0, 0, 0] S1024x16x31
  slices_S1024x16x32_S1024x16x1_0_0_0 : S1024x16x32.Slices ![0, 0, 0] S1024x16x1
  bcast_S_S1024x16x1 : S_.BroadcastsInDim S1024x16x1 (![] : Fin 0 → Fin S1024x16x1.rank)

variable [Facts]

variable {F : FTy → Type} [FloatOps F]
def comparator_f32_d2 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S1024x16x1024 .f32) : FVec F S1024x16x1024 .f32 :=
  let v0 : FVec F S1024x16x1024 .f32 := (fun x => Host.sort S1024x16x1024 2 comparator_f32_d2 x) arg0
  v0

def fn {F : FTy → Type} [FloatOps F] (main_arg0 : FVec F S1024x16384 .f32) : IVec S1024x16x31 1 × IVec S1024x16x1 1 :=
  let main_v0 : FVec F S1024x16x1024 .f32 := shapeCast S1024x16x1024 main_arg0 shapeCasts_S1024x16384_S1024x16x1024
  let main_v1 : FVec F S1024x16x1024 .f32 := fn_sort (F := F) main_v0
  let main_v2 : FVec F S1024x16x32 .f32 := (extractStridedSlice S1024x16x32 ![0, 0, 992] · slices_S1024x16x1024_S1024x16x32_0_0_992) main_v1
  let main_v3 : FVec F S1024x16x31 .f32 := (extractStridedSlice S1024x16x31 ![0, 0, 1] · slices_S1024x16x32_S1024x16x31_0_0_1) main_v2
  let main_v4 : FVec F S1024x16x31 .f32 := (extractStridedSlice S1024x16x31 ![0, 0, 0] · slices_S1024x16x32_S1024x16x31_0_0_0) main_v2
  let main_v5 : IVec S1024x16x31 1 := cmpf .ogt main_v3 main_v4
  let main_v6 : FVec F S1024x16x1 .f32 := (extractStridedSlice S1024x16x1 ![0, 0, 0] · slices_S1024x16x32_S1024x16x1_0_0_0) main_v2
  let main_cst : FVec F S_ .f32 := constant S_ .f32 0xFF7FFFFF#32
  let main_v7 : FVec F S1024x16x1 .f32 := broadcastInDim S1024x16x1 ![] bcast_S_S1024x16x1 main_cst
  let main_v8 : IVec S1024x16x1 1 := cmpf .oge main_v6 main_v7
  (main_v5, main_v8)
-- ==== Kernel.lean ====
abbrev S1024x8192 : Shape := ⟨2, ![1024, 8192]⟩
abbrev S1024x32 : Shape := ⟨2, ![1024, 32]⟩
abbrev S4x256x1024 : Shape := ⟨3, ![4, 256, 1024]⟩
abbrev S256x128 : Shape := ⟨2, ![256, 128]⟩
abbrev S8x128x128 : Shape := ⟨3, ![8, 128, 128]⟩
abbrev S4 : Shape := ⟨1, ![4]⟩
abbrev S8 : Shape := ⟨1, ![8]⟩
abbrev S_ : Shape := ⟨0, ![]⟩
abbrev S1 : Shape := ⟨1, ![1]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x32 : Shape := ⟨2, ![256, 32]⟩
abbrev S128x128 : Shape := ⟨2, ![128, 128]⟩
abbrev S1x128x128 : Shape := ⟨3, ![1, 128, 128]⟩
abbrev S128x32 : Shape := ⟨2, ![128, 32]⟩
abbrev S128x16 : Shape := ⟨2, ![128, 16]⟩
abbrev S128x24 : Shape := ⟨2, ![128, 24]⟩
abbrev S128x8 : Shape := ⟨2, ![128, 8]⟩
abbrev S128x28 : Shape := ⟨2, ![128, 28]⟩
abbrev S128x4 : Shape := ⟨2, ![128, 4]⟩
abbrev S128x30 : Shape := ⟨2, ![128, 30]⟩
abbrev S128x2 : Shape := ⟨2, ![128, 2]⟩
abbrev S128x31 : Shape := ⟨2, ![128, 31]⟩
abbrev S128x1 : Shape := ⟨2, ![128, 1]⟩

abbrev nBuf : Space → Nat
  | .hbm => 2
  | .vmem => 5
  | .smem => 0
  | _ => 0

abbrev bufTy : (tb : Table) → Fin (tcTables nBuf tb) → BufTy
  | .hbm, ⟨0, _⟩ => ⟨S1024x8192, .f32⟩
  | .hbm, ⟨1, _⟩ => ⟨S1024x32, .f32⟩
  | .local _ .vmem, ⟨0, _⟩ => ⟨S1024x32, .f32⟩
  | .local _ .vmem, ⟨1, _⟩ => ⟨S4x256x1024, .f32⟩
  | .local _ .vmem, ⟨2, _⟩ => ⟨S256x128, .f32⟩
  | .local _ .vmem, ⟨3, _⟩ => ⟨S8x128x128, .f32⟩
  | .local _ .vmem, ⟨4, _⟩ => ⟨S8x128x128, .f32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_7 : BitVec 32 := 8#32
  let v14 : BitVec 32 := Scalar.muli v2 c8_i32_7
  let v15 : BitVec 32 := Scalar.addi c0_i32 v14
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_8 : BitVec 32 := 4#32
  let v16 : BitVec 32 := Scalar.muli v9 c4_i32_8
  let v17 : BitVec 32 := Scalar.addi v15 v16
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v18 : BitVec 32 := Scalar.muli v8 c1_i32_9
  let v19 : BitVec 32 := Scalar.addi v17 v18
  v19.toNat
def k0_dev2 (d0 : Dev nD) : Nat :=
  let c0_i32_12 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_11 : BitVec 32 := 8#32
  let v20 : BitVec 32 := Scalar.muli v2 c8_i32_11
  let v21 : BitVec 32 := Scalar.addi c0_i32_12 v20
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_13 : BitVec 32 := 4#32
  let v22 : BitVec 32 := Scalar.muli v5 c4_i32_13
  let v23 : BitVec 32 := Scalar.addi v21 v22
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.xori v8 c1_i32_3
  let c1_i32_14 : BitVec 32 := 1#32
  let v24 : BitVec 32 := Scalar.muli v10 c1_i32_14
  let v25 : BitVec 32 := Scalar.addi v23 v24
  v25.toNat
def k0_dev3 (d0 : Dev nD) : Nat :=
  let c0_i32_17 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_16 : BitVec 32 := 8#32
  let v26 : BitVec 32 := Scalar.muli v2 c8_i32_16
  let v27 : BitVec 32 := Scalar.addi c0_i32_17 v26
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_18 : BitVec 32 := 4#32
  let v28 : BitVec 32 := Scalar.muli v5 c4_i32_18
  let v29 : BitVec 32 := Scalar.addi v27 v28
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let v11 : BitVec 32 := Scalar.xori v8 c2_i32_4
  let c1_i32_19 : BitVec 32 := 1#32
  let v30 : BitVec 32 := Scalar.muli v11 c1_i32_19
  let v31 : BitVec 32 := Scalar.addi v29 v30
  v31.toNat
def k0_dev4 (d0 : Dev nD) : Nat :=
  let c0_i32_22 : BitVec 32 := 0#32
  let c1_i32_5 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_5 v2
  let c8_i32_21 : BitVec 32 := 8#32
  let v32 : BitVec 32 := Scalar.muli v12 c8_i32_21
  let v33 : BitVec 32 := Scalar.addi c0_i32_22 v32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_23 : BitVec 32 := 4#32
  let v34 : BitVec 32 := Scalar.muli v5 c4_i32_23
  let v35 : BitVec 32 := Scalar.addi v33 v34
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v36 : BitVec 32 := Scalar.muli v8 c1_i32_24
  let v37 : BitVec 32 := Scalar.addi v35 v36
  v37.toNat
def k0_off1 (d0 : Dev nD) : Fin 2 → Nat :=
  let c0_i32_31 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_26 : BitVec 32 := 4#32
  let v38 : BitVec 32 := Scalar.muli v5 c4_i32_26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v39 : BitVec 32 := Scalar.addi v38 v8
  let c1024_i32 : BitVec 32 := 1024#32
  let v40 : BitVec 32 := Scalar.muli v39 c1024_i32
  ![0, v40.toNat]
def k0_off2 (d0 : Dev nD) : Fin 2 → Nat :=
  let c256_i32 : BitVec 32 := 256#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_26 : BitVec 32 := 4#32
  let v38 : BitVec 32 := Scalar.muli v5 c4_i32_26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v39 : BitVec 32 := Scalar.addi v38 v8
  let c1024_i32_32 : BitVec 32 := 1024#32
  let v46 : BitVec 32 := Scalar.muli v39 c1024_i32_32
  ![256, v46.toNat]
def k0_off3 (d0 : Dev nD) : Fin 2 → Nat :=
  let c512_i32 : BitVec 32 := 512#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_26 : BitVec 32 := 4#32
  let v38 : BitVec 32 := Scalar.muli v5 c4_i32_26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v39 : BitVec 32 := Scalar.addi v38 v8
  let c1024_i32_37 : BitVec 32 := 1024#32
  let v52 : BitVec 32 := Scalar.muli v39 c1024_i32_37
  ![512, v52.toNat]
def k0_off4 (d0 : Dev nD) : Fin 2 → Nat :=
  let c768_i32 : BitVec 32 := 768#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_26 : BitVec 32 := 4#32
  let v38 : BitVec 32 := Scalar.muli v5 c4_i32_26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v39 : BitVec 32 := Scalar.addi v38 v8
  let c1024_i32_42 : BitVec 32 := 1024#32
  let v58 : BitVec 32 := Scalar.muli v39 c1024_i32_42
  ![768, v58.toNat]
def k0_dev5 (d0 : Dev nD) : Nat :=
  let c0_i32_340 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_339 : BitVec 32 := 8#32
  let v861 : BitVec 32 := Scalar.muli v2 c8_i32_339
  let v862 : BitVec 32 := Scalar.addi c0_i32_340 v861
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_341 : BitVec 32 := 4#32
  let v863 : BitVec 32 := Scalar.muli v9 c4_i32_341
  let v864 : BitVec 32 := Scalar.addi v862 v863
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_342 : BitVec 32 := 1#32
  let v865 : BitVec 32 := Scalar.muli v8 c1_i32_342
  let v866 : BitVec 32 := Scalar.addi v864 v865
  v866.toNat
def k0_dev6 (d0 : Dev nD) : Nat :=
  let c0_i32_352 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_351 : BitVec 32 := 8#32
  let v875 : BitVec 32 := Scalar.muli v2 c8_i32_351
  let v876 : BitVec 32 := Scalar.addi c0_i32_352 v875
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_353 : BitVec 32 := 4#32
  let v877 : BitVec 32 := Scalar.muli v9 c4_i32_353
  let v878 : BitVec 32 := Scalar.addi v876 v877
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_354 : BitVec 32 := 1#32
  let v879 : BitVec 32 := Scalar.muli v8 c1_i32_354
  let v880 : BitVec 32 := Scalar.addi v878 v879
  v880.toNat
def k0_dev7 (d0 : Dev nD) : Nat :=
  let c0_i32_462 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_461 : BitVec 32 := 8#32
  let v1376 : BitVec 32 := Scalar.muli v2 c8_i32_461
  let v1377 : BitVec 32 := Scalar.addi c0_i32_462 v1376
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_463 : BitVec 32 := 4#32
  let v1378 : BitVec 32 := Scalar.muli v5 c4_i32_463
  let v1379 : BitVec 32 := Scalar.addi v1377 v1378
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.xori v8 c1_i32_3
  let c1_i32_464 : BitVec 32 := 1#32
  let v1380 : BitVec 32 := Scalar.muli v10 c1_i32_464
  let v1381 : BitVec 32 := Scalar.addi v1379 v1380
  v1381.toNat
def k0_dev8 (d0 : Dev nD) : Nat :=
  let c0_i32_574 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_573 : BitVec 32 := 8#32
  let v1877 : BitVec 32 := Scalar.muli v2 c8_i32_573
  let v1878 : BitVec 32 := Scalar.addi c0_i32_574 v1877
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_575 : BitVec 32 := 4#32
  let v1879 : BitVec 32 := Scalar.muli v5 c4_i32_575
  let v1880 : BitVec 32 := Scalar.addi v1878 v1879
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.xori v8 c1_i32_3
  let c1_i32_576 : BitVec 32 := 1#32
  let v1881 : BitVec 32 := Scalar.muli v10 c1_i32_576
  let v1882 : BitVec 32 := Scalar.addi v1880 v1881
  v1882.toNat
def k0_dev9 (d0 : Dev nD) : Nat :=
  let c0_i32_685 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_684 : BitVec 32 := 8#32
  let v2378 : BitVec 32 := Scalar.muli v2 c8_i32_684
  let v2379 : BitVec 32 := Scalar.addi c0_i32_685 v2378
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_686 : BitVec 32 := 4#32
  let v2380 : BitVec 32 := Scalar.muli v5 c4_i32_686
  let v2381 : BitVec 32 := Scalar.addi v2379 v2380
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let v11 : BitVec 32 := Scalar.xori v8 c2_i32_4
  let c1_i32_687 : BitVec 32 := 1#32
  let v2382 : BitVec 32 := Scalar.muli v11 c1_i32_687
  let v2383 : BitVec 32 := Scalar.addi v2381 v2382
  v2383.toNat
def k0_dev10 (d0 : Dev nD) : Nat :=
  let c0_i32_795 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_794 : BitVec 32 := 8#32
  let v2879 : BitVec 32 := Scalar.muli v2 c8_i32_794
  let v2880 : BitVec 32 := Scalar.addi c0_i32_795 v2879
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_796 : BitVec 32 := 4#32
  let v2881 : BitVec 32 := Scalar.muli v5 c4_i32_796
  let v2882 : BitVec 32 := Scalar.addi v2880 v2881
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let v11 : BitVec 32 := Scalar.xori v8 c2_i32_4
  let c1_i32_797 : BitVec 32 := 1#32
  let v2883 : BitVec 32 := Scalar.muli v11 c1_i32_797
  let v2884 : BitVec 32 := Scalar.addi v2882 v2883
  v2884.toNat
def k0_dev11 (d0 : Dev nD) : Nat :=
  let c0_i32_905 : BitVec 32 := 0#32
  let c1_i32_5 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_5 v2
  let c8_i32_904 : BitVec 32 := 8#32
  let v3380 : BitVec 32 := Scalar.muli v12 c8_i32_904
  let v3381 : BitVec 32 := Scalar.addi c0_i32_905 v3380
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_906 : BitVec 32 := 4#32
  let v3382 : BitVec 32 := Scalar.muli v5 c4_i32_906
  let v3383 : BitVec 32 := Scalar.addi v3381 v3382
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_907 : BitVec 32 := 1#32
  let v3384 : BitVec 32 := Scalar.muli v8 c1_i32_907
  let v3385 : BitVec 32 := Scalar.addi v3383 v3384
  v3385.toNat
def k0_dev12 (d0 : Dev nD) : Nat :=
  let c0_i32_1015 : BitVec 32 := 0#32
  let c1_i32_5 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_5 v2
  let c8_i32_1014 : BitVec 32 := 8#32
  let v3881 : BitVec 32 := Scalar.muli v12 c8_i32_1014
  let v3882 : BitVec 32 := Scalar.addi c0_i32_1015 v3881
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1016 : BitVec 32 := 4#32
  let v3883 : BitVec 32 := Scalar.muli v5 c4_i32_1016
  let v3884 : BitVec 32 := Scalar.addi v3882 v3883
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1017 : BitVec 32 := 1#32
  let v3885 : BitVec 32 := Scalar.muli v8 c1_i32_1017
  let v3886 : BitVec 32 := Scalar.addi v3884 v3885
  v3886.toNat
abbrev stage0_0 : Fin 1 → Memref sig .tc .vmem S1024x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x16384 : Shape := ⟨2, ![1024, 16384]⟩
abbrev S1024x32 : Shape := ⟨2, ![1024, 32]⟩
abbrev S_ : Shape := ⟨0, ![]⟩
abbrev S1024x32x1 : Shape := ⟨3, ![1024, 32, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S1024x16384, .f32⟩
  | .hbm, ⟨2, _⟩ => ⟨S1024x16384, .i32⟩
  | .hbm, ⟨3, _⟩ => ⟨S1024x16384, .f32⟩
  | .hbm, ⟨4, _⟩ => ⟨S1024x16384, .i32⟩
  | .hbm, ⟨5, _⟩ => ⟨S1024x32, .i32⟩
  | .hbm, ⟨6, _⟩ => ⟨S_, .i32⟩
  | .hbm, ⟨7, _⟩ => ⟨S1024x32, .i32⟩
  | .hbm, ⟨8, _⟩ => ⟨S1024x32, .i1⟩
  | .hbm, ⟨9, _⟩ => ⟨S_, .i32⟩
  | .hbm, ⟨10, _⟩ => ⟨S1024x32, .i32⟩
  | .hbm, ⟨11, _⟩ => ⟨S1024x32, .i32⟩
  | .hbm, ⟨12, _⟩ => ⟨S1024x32, .i32⟩
  | .hbm, ⟨13, _⟩ => ⟨S1024x32x1, .i32⟩
  | .hbm, ⟨14, _⟩ => ⟨S1, .i32⟩
  | .hbm, ⟨15, _⟩ => ⟨S_, .i32⟩
  | .hbm, ⟨16, _⟩ => ⟨S1024x32x1, .i32⟩
  | .hbm, ⟨17, _⟩ => ⟨S1024x32x1, .i1⟩
  | .hbm, ⟨18, _⟩ => ⟨S1x1x1, .i32⟩
  | .hbm, ⟨19, _⟩ => ⟨S1024x32x1, .i32⟩
  | .hbm, ⟨20, _⟩ => ⟨S1024x32x1, .i1⟩
  | .hbm, ⟨21, _⟩ => ⟨S1024x32x1, .i1⟩
  | .hbm, ⟨22, _⟩ => ⟨S_, .i1⟩
  | .hbm, ⟨23, _⟩ => ⟨S1024x32, .i1⟩
  | .hbm, ⟨24, _⟩ => ⟨S1024x32, .f32⟩
  | .hbm, ⟨25, _⟩ => ⟨S_, .f32⟩
  | .hbm, ⟨26, _⟩ => ⟨S1024x32, .f32⟩
  | .hbm, ⟨27, _⟩ => ⟨S1024x32, .f32⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Values.lean ====
/-
  THE VALUES ONE DEVICE COMPUTES, as functions of what it loads, at any float values `F`.
  A device finds, for each of four row groups of 256 rows, the 32 greatest of its 1024 columns by 32 rounds (the row maximum, then every
  entry equal to it masked), and packs the four 32-column results side by side (`packed`). The upper and the lower 128 rows of that block
  travel separately (`half`). A received half is merged with the own one (`merge`): every 32-lane segment of the received half is reversed,
  the two are compared lane by lane, and five compare-and-exchange steps put the greater half in order again.
-/
module

public import proofs.«01_k».proof.Proof.Gen.KernelIdeal

@[expose] public section

noncomputable section

namespace Cert.KernelIdeal.Net

open Idealize.ShloMosaic Facts₀

variable {F : FTy → Type} [FloatOps F]

/-! ## The rounds -/

/-- Each row's maximum, as a column. -/
def rowMax (v : FVec F S256x1024 .f32) : FVec F S256x1 .f32 :=
  shapeCast S256x1 (multiReduction .maximumf [1] S256 v 0xFF800000#32 reduces_S256x1024_S256 (.inl rfl) rfl) shapeCasts_S256_S256x1

/-- A row group after one round: what equals its row's maximum is masked. -/
def maskStep (v : FVec F S256x1024 .f32) : FVec F S256x1024 .f32 :=
  select (cmpf .oeq v (broadcastTo S256x1024 (rowMax v) broadcasts_S256x1_S256x1024))
    (broadcast S256x1024 (Scalar.ofBits .f32 0xFF7FFFFF#32)) v

/-- A row group after `n` rounds. -/
def masked (x : FVec F S256x1024 .f32) : Nat → FVec F S256x1024 .f32
  | 0 => x
  | n + 1 => maskStep (masked x n)

/-- The maxima that round `n` finds, as a piece of the result. -/
def roundCol (x : FVec F S256x1024 .f32) (n : Nat) : (s : Shape) × (s.Idx → F .f32) := ⟨S256x1, rowMax (masked x n)⟩

/-- The 32 rounds' maxima, side by side. -/
def topCols (x : FVec F S256x1024 .f32) : FVec F S256x32 .f32 :=
  concatenate S256x32 1
    [roundCol x 0, roundCol x 1, roundCol x 2, roundCol x 3, roundCol x 4, roundCol x 5, roundCol x 6, roundCol x 7,
     roundCol x 8, roundCol x 9, roundCol x 10, roundCol x 11, roundCol x 12, roundCol x 13, roundCol x 14, roundCol x 15,
     roundCol x 16, roundCol x 17, roundCol x 18, roundCol x 19, roundCol x 20, roundCol x 21, roundCol x 22, roundCol x 23,
     roundCol x 24, roundCol x 25, roundCol x 26, roundCol x 27, roundCol x 28, roundCol x 29, roundCol x 30, roundCol x 31]
    concatenates_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x32_d1

/-- A row group as it is loaded, without its leading axis of one. -/
def rowGroup (v : Vec F S1x256x1024 .f32) : FVec F S256x1024 .f32 := shapeCast S256x1024 v shapeCasts_S1x256x1024_S256x1024

/-- The four row groups' results, side by side: lane `32 j + k` is row group `j`'s `k`-th greatest. -/
def packed (x0 x1 x2 x3 : FVec F S256x1024 .f32) : FVec F S256x128 .f32 :=
  concatenate S256x128 1
    [⟨S256x32, topCols x0⟩, ⟨S256x32, topCols x1⟩, ⟨S256x32, topCols x2⟩,
     ⟨S256x32, topCols x3⟩]
    concatenates_S256x32_S256x32_S256x32_S256x32_S256x128_d1

/-- 128 rows lie within the 256, from row 0 and from row 128. -/
theorem slices_half (h : Fin 2) : S256x128.Slices ![128 * h.val, 0] S128x128 := by revert h; decide +kernel

/-- The upper (`h = 0`) or the lower (`h = 1`) 128 rows. -/
def half (h : Fin 2) (p : FVec F S256x128 .f32) : FVec F S128x128 .f32 := extractStridedSlice S128x128 ![128 * h.val, 0] p (slices_half h)

/-! ## The merge -/

/-- A block of 128 rows by `n` lanes. -/
abbrev lanes (n : Nat) : Shape := ⟨2, ![128, n]⟩

/-- Each lane's number. -/
def laneNo : IVec S128x128 32 := iota .tc S128x128 32 [1] iota_S128x128_d1_w32

/-- The remainder of each lane's number by `m`, made non-negative the way a floored remainder is. -/
def laneMod (m : BitVec 32) : IVec S128x128 32 :=
  let d : BitVec 32 := Scalar.select (Scalar.cmpi .eq m 0#32) 1#32 m
  let r : IVec S128x128 32 := remsi laneNo (broadcast S128x128 d)
  select (andi (xori (cmpi .slt r (broadcast S128x128 0#32))
      (broadcastTo S128x128 (broadcast S128x128 (Scalar.cmpi .slt d 0#32)) broadcasts_S128x128_S128x128))
      (cmpi .ne r (broadcast S128x128 0#32)))
    (addi r (broadcast S128x128 d)) r

/-- Is the lane in the first half of its run of `2 s` lanes? -/
def lowLane (s : BitVec 32) (m : BitVec 32) : IVec S128x128 1 := cmpi .slt (laneMod m) (broadcast S128x128 s)

/-- A 32-lane segment lies within the 128 lanes. -/
theorem slices_seg (j : Fin 4) : S128x128.Slices ![0, 32 * j.val] S128x32 := by revert j; decide +kernel

/-- The lanes of a segment from lane `a` on. -/
theorem slices_hi (a : Fin 32) : S128x32.Slices ![0, a.val] (lanes (32 - a.val)) := by revert a; decide +kernel

/-- The lanes of a segment before lane `a`. -/
theorem slices_lo (a : Fin 32) : S128x32.Slices ![0, 0] (lanes a.val) := by revert a; decide +kernel

/-- The two parts of the four segments fill the 128 lanes. -/
theorem concatenates_roll (a : Fin 32) :
    Shape.Concatenates [lanes (32 - a.val), lanes a.val, lanes (32 - a.val), lanes a.val, lanes (32 - a.val), lanes a.val,
      lanes (32 - a.val), lanes a.val] S128x128 1 := by revert a; decide +kernel

/-- Segment `j` of a block. -/
def seg (j : Fin 4) (v : FVec F S128x128 .f32) : FVec F S128x32 .f32 := extractStridedSlice S128x32 ![0, 32 * j.val] v (slices_seg j)

/-- Segment `j`'s lanes from `a` on, a piece of the rotation. -/
def pieceHi (a : Fin 32) (j : Fin 4) (v : FVec F S128x128 .f32) : (s : Shape) × (s.Idx → F .f32) :=
  ⟨lanes (32 - a.val), extractStridedSlice (lanes (32 - a.val)) ![0, a.val] (seg j v) (slices_hi a)⟩

/-- Segment `j`'s lanes before `a`, a piece of the rotation. -/
def pieceLo (a : Fin 32) (j : Fin 4) (v : FVec F S128x128 .f32) : (s : Shape) × (s.Idx → F .f32) :=
  ⟨lanes a.val, extractStridedSlice (lanes a.val) ![0, 0] (seg j v) (slices_lo a)⟩

/-- Every segment rotated by `a` lanes: lane `k` of a segment takes its lane `(k + a) mod 32`. -/
def rot (a : Fin 32) (v : FVec F S128x128 .f32) : FVec F S128x128 .f32 :=
  concatenate S128x128 1
    [pieceHi a 0 v, pieceLo a 0 v, pieceHi a 1 v, pieceLo a 1 v, pieceHi a 2 v, pieceLo a 2 v, pieceHi a 3 v, pieceLo a 3 v]
    (concatenates_roll a)

/-- Each lane takes its partner's word, `s` lanes away within its run of `2 s` (`a = s`, `b = 32 - s`). -/
def swapStep (s m : BitVec 32) (a b : Fin 32) (v : FVec F S128x128 .f32) : FVec F S128x128 .f32 :=
  select (lowLane s m) (rot a v) (rot b v)

/-- Each lane against its partner: the lower keeps the maximum, the upper the minimum. -/
def netStep (s m : BitVec 32) (a b : Fin 32) (v : FVec F S128x128 .f32) : FVec F S128x128 .f32 :=
  select (lowLane s m) (maximumf v (rot a v)) (minimumf v (rot b v))

/-- Every segment in reverse order. -/
def reverseSegs (v : FVec F S128x128 .f32) : FVec F S128x128 .f32 :=
  swapStep 1#32 2#32 1 31 (swapStep 2#32 4#32 2 30 (swapStep 4#32 8#32 4 28 (swapStep 8#32 16#32 8 24 (swapStep 16#32 32#32 16 16 v))))

/-- Every segment, which must rise and fall at most once around, in descending order. -/
def sortSegs (v : FVec F S128x128 .f32) : FVec F S128x128 .f32 :=
  netStep 1#32 2#32 1 31 (netStep 2#32 4#32 2 30 (netStep 4#32 8#32 4 28 (netStep 8#32 16#32 8 24 (netStep 16#32 32#32 16 16 v))))

/-- Two blocks of descending 32-lane segments merged: the 32 greatest of each pair of segments, descending. -/
def merge (a b : FVec F S128x128 .f32) : FVec F S128x128 .f32 := sortSegs (maximumf a (reverseSegs b))

/-! ## Between a slot and a block -/

/-- A block as the contents of one slot, with a leading axis of one. -/
def toSlot (v : FVec F S128x128 .f32) : FVec F S1x128x128 .f32 := shapeCast S1x128x128 v shapeCasts_S128x128_S1x128x128

/-- A loaded slot as a block. -/
def ofSlot (v : Vec F S1x128x128 .f32) : FVec F S128x128 .f32 := shapeCast S128x128 v shapeCasts_S1x128x128_S128x128

end Cert.KernelIdeal.Net

end
-- ==== Proof.Clean.lean ====
/-
  THE KERNEL'S BODY, WRITTEN AGAIN BY NAMES: the same effects in the same order as the printed body, over the values of Values.lean, every
  slot, semaphore and partner a function of the slot's number. `body_eq_clean` says that it is the printed body.
-/
module

public import proofs.«01_k».proof.Proof.Values
public import proofs.«01_k».proof.Proof.Gen.KernelIdeal.Skeleton
public import Idealize.ShloMosaic.Lib.Tactic

@[expose] public section

noncomputable section

namespace Cert.KernelIdeal.Net

open Idealize.ShloMosaic Idealize.SL.Sem Facts₀

variable {F : FTy → Type} [FloatOps F]

/-! ## Where things are -/

/-- Slot `s`'s place in a buffer of eight. -/
theorem inb_slot (s : Fin 8) : ∀ a, (![s.val, 0, 0] : Fin 3 → Nat) a + S1x128x128.size a ≤ S8x128x128.size a := by
  revert s; decide +kernel

/-- Slot `s` of a buffer of eight, as an access. -/
def slotRect (s : Fin 8) : Rect S8x128x128 := Rect.unit (s := S8x128x128) ![s.val, 0, 0] S1x128x128.size (inb_slot s)

/-- Slot `s` of a buffer of eight, as the block a transfer reads or writes. -/
def slot (M : Memref sig .tc .vmem S8x128x128 .f32) (s : Fin 8) : Memref sig .tc .vmem S128x128 .f32 :=
  (M.slice (slotRect s) (fun _ => rfl)).squeeze S128x128 squeezes_S1x128x128_S128x128

/-- Semaphore `s` of eight. -/
theorem inb_sem8 (s : Fin 8) : ∀ a, (![s.val] : Fin 1 → Nat) a + S1.size a ≤ S8.size a := by revert s; decide +kernel

/-- Semaphore `s` of eight. -/
def sem8 (M : DmaSems sig S8) (s : Fin 8) : DmaSem sig :=
  ((M.slice (Rect.unit (s := S8) ![s.val] S1.size (inb_sem8 s))).squeeze S_ squeezes_S1_S_).sem

/-- Semaphore `j` of four. -/
theorem inb_sem4 (j : Fin 4) : ∀ a, (![j.val] : Fin 1 → Nat) a + S1.size a ≤ S4.size a := by revert j; decide +kernel

/-- Semaphore `j` of four. -/
def sem4 (M : DmaSems sig S4) (j : Fin 4) : DmaSem sig :=
  ((M.slice (Rect.unit (s := S4) ![j.val] S1.size (inb_sem4 j))).squeeze S_ squeezes_S1_S_).sem

/-- Row group `j` of the staged columns. -/
theorem inb_group (j : Fin 4) : ∀ a, (![j.val, 0, 0] : Fin 3 → Nat) a + S1x256x1024.size a ≤ S4x256x1024.size a := by
  revert j; decide +kernel

/-- Row group `j` of the staged columns, as an access. -/
def groupRect (j : Fin 4) : Rect S4x256x1024 := Rect.unit (s := S4x256x1024) ![j.val, 0, 0] S1x256x1024.size (inb_group j)

/-- Row group `j` of the staged columns, as the block a transfer writes. -/
def group (M : Memref sig .tc .vmem S4x256x1024 .f32) (j : Fin 4) : Memref sig .tc .vmem S256x1024 .f32 :=
  (M.slice (groupRect j) (fun _ => rfl)).squeeze S256x1024 squeezes_S1x256x1024_S256x1024

/-- Where in the device's columns row group `j` starts. -/
def srcOff (j : Fin 4) (d : Dev nD) : Fin 2 → Nat :=
  match j with
  | 0 => k0_off1 d
  | 1 => k0_off2 d
  | 2 => k0_off3 d
  | 3 => k0_off4 d

/-- That part lies within them. -/
theorem srcOff_inb (j : Fin 4) (d : Dev nD) : ∀ a, srcOff j d a + S256x1024.size a ≤ S1024x8192.size a :=
  match j with
  | 0 => k0_off1_inb d
  | 1 => k0_off2_inb d
  | 2 => k0_off3_inb d
  | 3 => k0_off4_inb d

/-- The part of the device's columns that row group `j` is copied from. -/
def src (M : Memref sig .tc .hbm S1024x8192 .f32) (j : Fin 4) (d : Dev nD) : Memref sig .tc .hbm S256x1024 .f32 :=
  M.slice (Rect.unit (s := S1024x8192) (srcOff j d) S256x1024.size (srcOff_inb j d)) (fun _ => rfl)

/-- The four partners, as the entry barrier computes them. -/
def barDev (k : Fin 4) (d : Dev nD) : Dev nD :=
  match k with
  | 0 => ⟨k0_dev1 d, k0_dev1_lt d⟩
  | 1 => ⟨k0_dev2 d, k0_dev2_lt d⟩
  | 2 => ⟨k0_dev3 d, k0_dev3_lt d⟩
  | 3 => ⟨k0_dev4 d, k0_dev4_lt d⟩

/-- The device that transfer `s` goes to, as the transfer computes it. -/
def sendDev (s : Fin 8) (d : Dev nD) : Dev nD :=
  match s with
  | 0 => ⟨k0_dev5 d, k0_dev5_lt d⟩
  | 1 => ⟨k0_dev6 d, k0_dev6_lt d⟩
  | 2 => ⟨k0_dev7 d, k0_dev7_lt d⟩
  | 3 => ⟨k0_dev8 d, k0_dev8_lt d⟩
  | 4 => ⟨k0_dev9 d, k0_dev9_lt d⟩
  | 5 => ⟨k0_dev10 d, k0_dev10_lt d⟩
  | 6 => ⟨k0_dev11 d, k0_dev11_lt d⟩
  | 7 => ⟨k0_dev12 d, k0_dev12_lt d⟩

/-- The two halves of the merged block. -/
theorem inb_half (h : Fin 2) : ∀ a, (![128 * h.val, 0] : Fin 2 → Nat) a + S128x128.size a ≤ S256x128.size a := by
  revert h; decide +kernel

/-- A half of the merged block, as an access. -/
def halfRect (h : Fin 2) : Rect S256x128 := Rect.unit (s := S256x128) ![128 * h.val, 0] S128x128.size (inb_half h)

/-- The four 32-lane segments of the merged block. -/
theorem inb_seg (j : Fin 4) : ∀ a, (![0, 32 * j.val] : Fin 2 → Nat) a + S256x32.size a ≤ S256x128.size a := by
  revert j; decide +kernel

/-- A segment of the merged block, as an access. -/
def segRect (j : Fin 4) : Rect S256x128 := Rect.unit (s := S256x128) ![0, 32 * j.val] S256x32.size (inb_seg j)

/-- The four row groups of the result. -/
theorem inb_out (j : Fin 4) : ∀ a, (![256 * j.val, 0] : Fin 2 → Nat) a + S256x32.size a ≤ S1024x32.size a := by
  revert j; decide +kernel

/-- A row group of the result, as an access. -/
def outRect (j : Fin 4) : Rect S1024x32 := Rect.unit (s := S1024x32) ![256 * j.val, 0] S256x32.size (inb_out j)

/-- The runtime's barrier semaphore. -/
def barSem : Sem sig := (SemArray.scalar (sig.barrier 0 rfl) : Sems sig S_).sem

/-! ## The steps -/

/-- The programs of a TensorCore. -/
abbrev TProg (F : FTy → Type) (α : Type) := Prog (TpuEff nD τ sig (Elt F) Λ₀ .tc) α

/-- Tell partner `k` that this device is ready. -/
def tell (k : Fin 4) (d : Dev nD) : TProg F PUnit :=
  semSignalWord (barDev k d : Dev nD) barSem 1#32

/-- Start copying row group `j`. -/
def startCopy (arg0 : Memref sig .tc .hbm S1024x8192 .f32) (arg2 : Memref sig .tc .vmem S4x256x1024 .f32) (arg6 : DmaSems sig S4)
    (j : Fin 4) (d : Dev nD) : TProg F PUnit :=
  Prog.lift (.enqueueDma (src arg0 j d) (.here (group arg2 j)) (.dma (sem4 arg6 j)) (View.wordExact_bits rfl)
    ((View.wordExact_bits rfl).reshape _ _) ⟨Or.inl rfl, trivial⟩)

/-- Wait for row group `j`. -/
def waitCopy (arg0 : Memref sig .tc .hbm S1024x8192 .f32) (arg2 : Memref sig .tc .vmem S4x256x1024 .f32) (arg6 : DmaSems sig S4)
    (j : Fin 4) (d : Dev nD) : TProg F PUnit :=
  Prog.lift (.waitDma2 (sem4 arg6 j) (src arg0 j d) (group arg2 j) (View.wordExact_bits rfl) ((View.wordExact_bits rfl).reshape _ _))

/-- Read row group `j`. -/
def loadGroup (arg2 : Memref sig .tc .vmem S4x256x1024 .f32) (j : Fin 4) : TProg F (Vec F S1x256x1024 .f32) :=
  Prog.lift (.load arg2 (groupRect j).toLoadRect (View.loadsAt_vmem h_S1x256x1024))

/-- Read slot `s`. -/
def loadSlot (M : Memref sig .tc .vmem S8x128x128 .f32) (s : Fin 8) : TProg F (Vec F S1x128x128 .f32) :=
  Prog.lift (.load M (slotRect s).toLoadRect (View.loadsAt_vmem h_S1x128x128))

/-- Write a block to slot `s` (the printed program reads the slot before it writes it). -/
def putSlot (M : Memref sig .tc .vmem S8x128x128 .f32) (s : Fin 8) (v : FVec F S128x128 .f32) : TProg F PUnit := do
  let _ ← loadSlot M s
  Prog.lift (.store M (slotRect s) (toSlot v) Finset.univ (View.stores_vmem_bits_univ h_S1x128x128 rfl) (.inl rfl))

/-- Start sending slot `s`. -/
def startSend (arg4 arg5 : Memref sig .tc .vmem S8x128x128 .f32) (arg7 arg8 : DmaSems sig S8) (s : Fin 8) (d : Dev nD) :
    TProg F PUnit :=
  Prog.lift (.enqueueDma (slot arg4 s) (.remote (Dev.tc (sendDev s d : Dev nD)) (slot arg5 s) (.dma (sem8 arg7 s))) (.dma (sem8 arg8 s))
    ((View.wordExact_bits rfl).reshape _ _) ((View.wordExact_bits rfl).reshape _ _) ⟨⟨rfl, Or.inl rfl⟩, trivial⟩)

/-- Wait until slot `s` has left and its counterpart has arrived, and merge the two. -/
def exchange (arg4 arg5 : Memref sig .tc .vmem S8x128x128 .f32) (arg7 arg8 : DmaSems sig S8) (s : Fin 8) :
    TProg F (FVec F S128x128 .f32) := do
  Prog.lift (.waitDma2 (sem8 arg7 s) (slot arg5 s) (slot arg4 s) ((View.wordExact_bits rfl).reshape _ _)
    ((View.wordExact_bits rfl).reshape _ _))
  Prog.lift (.waitDma2 (sem8 arg8 s) (slot arg4 s) (slot arg5 s) ((View.wordExact_bits rfl).reshape _ _)
    ((View.wordExact_bits rfl).reshape _ _))
  let a ← loadSlot arg4 s
  let b ← loadSlot arg5 s
  pure (merge (ofSlot a) (ofSlot b))

/-- One half's step of a round that another follows: the merged block goes on in slot `t`. -/
def midStep (arg4 arg5 : Memref sig .tc .vmem S8x128x128 .f32) (arg7 arg8 : DmaSems sig S8) (s t : Fin 8) (d : Dev nD) :
    TProg F PUnit := do
  let v ← exchange arg4 arg5 arg7 arg8 s
  putSlot arg4 t v
  startSend arg4 arg5 arg7 arg8 t d

/-- One half's step of the last round: the merged block is that half of the merged block. -/
def lastStep (arg3 : Memref sig .tc .vmem S256x128 .f32) (arg4 arg5 : Memref sig .tc .vmem S8x128x128 .f32) (arg7 arg8 : DmaSems sig S8)
    (s : Fin 8) (h : Fin 2) : TProg F PUnit := do
  let v ← exchange arg4 arg5 arg7 arg8 s
  let _ ← (Prog.lift (.load arg3 (halfRect h).toLoadRect (View.loadsAt_vmem h_S128x128)) : TProg F (Vec F S128x128 .f32))
  Prog.lift (.store arg3 (halfRect h) (shapeCast S128x128 v shapeCasts_S128x128_S128x128) Finset.univ
    (View.stores_vmem_bits_univ h_S128x128 rfl) (.inl rfl))

/-- A segment of the merged block goes to its rows of the result. -/
def outStep (arg1 : Memref sig .tc .vmem S1024x32 .f32) (arg3 : Memref sig .tc .vmem S256x128 .f32) (j : Fin 4) : TProg F PUnit := do
  let v ← (Prog.lift (.load arg3 (segRect j).toLoadRect (View.loadsAt_vmem h_S256x32)) : TProg F (Vec F S256x32 .f32))
  let _ ← (Prog.lift (.load arg1 (outRect j).toLoadRect (View.loadsAt_vmem h_S256x32)) : TProg F (Vec F S256x32 .f32))
  Prog.lift (.store arg1 (outRect j) v Finset.univ (View.stores_vmem_bits_univ h_S256x32 rfl) (.inl rfl))

/-- The body, step by step. -/
def cleanBody (arg0 : Memref sig .tc .hbm S1024x8192 .f32) (arg1 : Memref sig .tc .vmem S1024x32 .f32)
    (arg2 : Memref sig .tc .vmem S4x256x1024 .f32) (arg3 : Memref sig .tc .vmem S256x128 .f32)
    (arg4 arg5 : Memref sig .tc .vmem S8x128x128 .f32) (arg6 : DmaSems sig S4) (arg7 arg8 : DmaSems sig S8) : TProg F PUnit := do
  let d : Dev nD ← Prog.lift .deviceId
  tell 0 d; tell 1 d; tell 2 d; tell 3 d
  semWaitWord barSem 4#32
  startCopy arg0 arg2 arg6 0 d; startCopy arg0 arg2 arg6 1 d; startCopy arg0 arg2 arg6 2 d; startCopy arg0 arg2 arg6 3 d
  waitCopy arg0 arg2 arg6 0 d; waitCopy arg0 arg2 arg6 1 d; waitCopy arg0 arg2 arg6 2 d; waitCopy arg0 arg2 arg6 3 d
  let x0 ← loadGroup arg2 0
  let x1 ← loadGroup arg2 1
  let x2 ← loadGroup arg2 2
  let x3 ← loadGroup arg2 3
  putSlot arg4 0 (half 0 (packed (rowGroup x0) (rowGroup x1) (rowGroup x2) (rowGroup x3)))
  putSlot arg4 1 (half 1 (packed (rowGroup x0) (rowGroup x1) (rowGroup x2) (rowGroup x3)))
  startSend arg4 arg5 arg7 arg8 0 d; startSend arg4 arg5 arg7 arg8 1 d
  midStep arg4 arg5 arg7 arg8 0 2 d; midStep arg4 arg5 arg7 arg8 1 3 d
  midStep arg4 arg5 arg7 arg8 2 4 d; midStep arg4 arg5 arg7 arg8 3 5 d
  midStep arg4 arg5 arg7 arg8 4 6 d; midStep arg4 arg5 arg7 arg8 5 7 d
  lastStep arg3 arg4 arg5 arg7 arg8 6 0; lastStep arg3 arg4 arg5 arg7 arg8 7 1
  outStep arg1 arg3 0; outStep arg1 arg3 1; outStep arg1 arg3 2; outStep arg1 arg3 3

/-- The printed body is the body step by step. -/
theorem body_eq_clean (arg0 : Memref sig .tc .hbm S1024x8192 .f32) (harg0 : arg0.IsWhole) (arg1 : Memref sig .tc .vmem S1024x32 .f32)
    (harg1 : arg1.IsWhole) (arg2 : Memref sig .tc .vmem S4x256x1024 .f32) (harg2 : arg2.IsWhole)
    (arg3 : Memref sig .tc .vmem S256x128 .f32) (harg3 : arg3.IsWhole) (arg4 : Memref sig .tc .vmem S8x128x128 .f32)
    (harg4 : arg4.IsWhole) (arg5 : Memref sig .tc .vmem S8x128x128 .f32) (harg5 : arg5.IsWhole) (arg6 : DmaSems sig S4)
    (arg7 arg8 : DmaSems sig S8) :
    cc0__body (F := F) arg0 harg0 arg1 harg1 arg2 harg2 arg3 harg3 arg4 harg4 arg5 harg5 arg6 arg7 arg8
      = cleanBody arg0 arg1 arg2 arg3 arg4 arg5 arg6 arg7 arg8 := by
  sl_kernel_rfl

end Cert.KernelIdeal.Net

end
-- ==== Proof.Contents.lean ====
/-
  WHAT EVERY BUFFER HOLDS: the partners of the four rounds, and the contents each device computes, sends and receives, as functions of the
  memory the run starts from.
-/
module

public import proofs.«01_k».proof.Proof.Clean
public import Idealize.ShloMosaic.Lib.Pointwise.Index

@[expose] public section

noncomputable section

namespace Cert.KernelIdeal.Net

open Idealize.ShloMosaic Idealize.ShloMosaic.TcCoe Idealize.SL.Sem Facts₀

variable {F : FTy → Type} [FloatOps F]

/-! ## The partners -/

/-- Which bit of a device's number round `k` flips. -/
def flipBit (k : Fin 4) : Nat := match k with | 0 => 4 | 1 => 1 | 2 => 2 | 3 => 8

set_option backward.proofsInPublic true in
/-- Round `k`'s partner. -/
def pt (k : Fin 4) (c : Dev nD) : Dev nD := ⟨(c.val ^^^ flipBit k) % 16, Nat.mod_lt _ (by decide)⟩

theorem pt_pt (k : Fin 4) (c : Dev nD) : pt k (pt k c) = c := by revert k c; decide +kernel

theorem barDev_eq (k : Fin 4) (c : Dev nD) : barDev k c = pt k c := by revert k c; decide +kernel

/-- The round that slot `s` belongs to. -/
def rd (s : Fin 8) : Fin 4 := ⟨s.val / 2, by omega⟩

/-- The half that slot `s` holds. -/
def hf (s : Fin 8) : Fin 2 := ⟨s.val % 2, by omega⟩

theorem sendDev_eq (s : Fin 8) (c : Dev nD) : sendDev s c = pt (rd s) c := by revert s c; decide +kernel

/-- Round `k`'s two slots. -/
def slotLo (k : Fin 4) : Fin 8 := ⟨2 * k.val, by omega⟩
/-- Round `k`'s two slots. -/
def slotHi (k : Fin 4) : Fin 8 := ⟨2 * k.val + 1, by omega⟩

/-! ## The buffers -/

abbrev aM : Memref sig .tc .hbm S1024x8192 .f32 := Memref.whole main_arg0
abbrev oM : Memref sig .tc .vmem S1024x32 .f32 := Memref.whole cc0_stg0_0
abbrev xM : Memref sig .tc .vmem S4x256x1024 .f32 := Memref.whole cc0_scratch0
abbrev gM : Memref sig .tc .vmem S256x128 .f32 := Memref.whole cc0_scratch1
abbrev sM : Memref sig .tc .vmem S8x128x128 .f32 := Memref.whole cc0_scratch2
abbrev rM : Memref sig .tc .vmem S8x128x128 .f32 := Memref.whole cc0_scratch3

/-! ## The contents -/

variable (m : (ℓ : Loc nD τ sig) → Buf (Elt F) ℓ)

/-- Row group `j` of device `c`'s columns. -/
def xs (c : Dev nD) (j : Fin 4) : FVec F S256x1024 .f32 := (src aM j c).view.read (Elt F) (m ((c : Thread nD τ).loc main_arg0))

/-- What device `c` packs. -/
def base (c : Dev nD) : FVec F S256x128 .f32 := packed (xs m c 0) (xs m c 1) (xs m c 2) (xs m c 3)

/-- Half `h` of what device `c` holds after `n` rounds. -/
def acc : Nat → Dev nD → Fin 2 → FVec F S128x128 .f32
  | 0, c, h => half h (base m c)
  | n + 1, c, h => merge (acc n c h) (acc n (pt (Fin.ofNat 4 n) c) h)

/-- What device `c` sends from slot `s`. -/
def sent (c : Dev nD) (s : Fin 8) : FVec F S128x128 .f32 := acc m (s.val / 2) c (hf s)

/-- The merge of a slot with its counterpart is what the half goes on as. -/
theorem merge_sent (c : Dev nD) (s : Fin 8) :
    merge (sent m c s) (sent m (pt (rd s) c) s) = acc m (s.val / 2 + 1) c (hf s) := by
  show _ = merge (acc m (s.val / 2) c (hf s)) (acc m (s.val / 2) (pt (Fin.ofNat 4 (s.val / 2)) c) (hf s))
  rw [show (Fin.ofNat 4 (s.val / 2)) = rd s by revert s; decide +kernel]
  rfl

theorem merge_sent_next (c : Dev nD) (s t : Fin 8) (h : t.val = s.val + 2) :
    merge (sent m c s) (sent m (pt (rd s) c) s) = sent m c t := by
  rw [merge_sent]; unfold sent
  rw [show t.val / 2 = s.val / 2 + 1 by omega, show hf t = hf s from Fin.ext (by show t.val % 2 = s.val % 2; omega)]

/-- What device `c` ends with: its two halves, one above the other. -/
def merged (c : Dev nD) : FVec F S256x128 .f32 := fun i =>
  acc m 4 c ⟨(i 0).val / 128, by have : (i 0).val < 256 := (i 0).isLt; omega⟩
    (ix2 (⟨(i 0).val % 128, Nat.mod_lt _ (by decide)⟩ : Fin 128) (i 1 : Fin 128))

/-- The result: segment `j` of the merged block is rows `256 j` on. -/
def outAt (c : Dev nD) : FVec F S1024x32 .f32 := fun i =>
  merged m c (ix2 (⟨(i 0).val % 256, Nat.mod_lt _ (by decide)⟩ : Fin 256)
    (⟨32 * ((i 0).val / 256) + (i 1).val, by
      have h0 : (i 0).val < 1024 := (i 0).isLt
      have h1 : (i 1).val < 32 := (i 1).isLt
      omega⟩ : Fin 128))

end Cert.KernelIdeal.Net

end
-- ==== Proof.Protocol.lean ====
/-
  THE PROTOCOL: which semaphores take part, who pays them what, and what a device owes as it goes.
  A device's barrier cell has four duties, one for each partner; partner `k` pays it with its two landing slots of round `k`. A transfer's
  receive cell is paid by the partner with the block that has landed; its send cell gives the own slot back; a copy's cell gives the
  staged row group and the source back.
-/
module

public import proofs.«01_k».proof.Proof.Contents
public import proofs.«01_k».proof.Proof.Gen.KernelIdeal.Launch
public import Idealize.ShloMosaic.Lib.Rounds
public import Idealize.ShloMosaic.Lib.Memref
public import Idealize.ShloMosaic.Lib.Pipeline.Launch

@[expose] public section

noncomputable section

namespace Cert.KernelIdeal.Net

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline library's, and this protocol's with duties named by four numbers -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

abbrev copyS (j : Fin 4) : DmaSem sig := sem4 cc0_scratch4 j
abbrev sendS (s : Fin 8) : DmaSem sig := sem8 cc0_scratch5 s
abbrev recvS (s : Fin 8) : DmaSem sig := sem8 cc0_scratch6 s

theorem copyS_val (j : Fin 4) : (copyS j).val = 1 + j.val := by revert j; decide +kernel
theorem sendS_val (s : Fin 8) : (sendS s).val = 5 + s.val := by revert s; decide +kernel
theorem recvS_val (s : Fin 8) : (recvS s).val = 13 + s.val := by revert s; decide +kernel

abbrev barCell (c : Dev nD) : GSem nD τ sig := ((c : Thread nD τ), .reg barSem)
abbrev copyCell (c : Dev nD) (j : Fin 4) : GSem nD τ sig := ((c : Thread nD τ), .dma (copyS j))
abbrev sendCell (c : Dev nD) (s : Fin 8) : GSem nD τ sig := ((c : Thread nD τ), .dma (sendS s))
abbrev recvCell (c : Dev nD) (s : Fin 8) : GSem nD τ sig := ((c : Thread nD τ), .dma (recvS s))

/-- The kernel's own transfer semaphores, by kind. -/
abbrev DI : Type := Fin 4 ⊕ (Fin 8 ⊕ Fin 8)
/-- All the cells of a device: the barrier, and those. -/
abbrev CI : Type := Unit ⊕ DI

abbrev dsem : DI → DmaSem sig
  | .inl j => copyS j
  | .inr (.inl s) => sendS s
  | .inr (.inr s) => recvS s

abbrev csem : CI → SemLoc sig
  | .inl _ => .reg barSem
  | .inr i => .dma (dsem i)

abbrev kcell (ck : Dev nD × CI) : GSem nD τ sig := ((ck.1 : Thread nD τ), csem ck.2)

/-- One row group's credit, and one slot's. -/
abbrev NC : ℕ := (group xM 0).view.dmaCredit
abbrev N : ℕ := (slot rM 0).view.dmaCredit
theorem NC_pos : 0 < NC := View.dmaCredit_pos _ (by decide)
theorem N_pos : 0 < N := View.dmaCredit_pos _ (by decide)

/-! ## The payloads -/

/-- A landing slot, whatever it holds. -/
def slotAny (M : Memref sig .tc .vmem S8x128x128 .f32) (c : Dev nD) (s : Fin 8) : sProp 𝕄 :=
  iprop(∃ f, (slot M s).view.loc (c : Thread nD τ) ↦[(slot M s).view.set]{fullShare} f)

/-- The part of device `c`'s columns that row group `j` is copied from, as it was at launch. -/
def srcPts (c : Dev nD) (j : Fin 4) : sProp 𝕄 :=
  (c : Thread nD τ).loc main_arg0 ↦[(src aM j c).view.set]{fullShare} (m ((c : Thread nD τ).loc main_arg0))

def barPay (c : Dev nD) (k : Fin 4) : sProp 𝕄 := iprop(slotAny (F := F) rM (pt k c) (slotLo k) ∗ slotAny (F := F) rM (pt k c) (slotHi k))
def copyPay (c : Dev nD) (j : Fin 4) : sProp 𝕄 := iprop(owns (c : Thread nD τ) (group xM j) fullShare (xs m c j) ∗ srcPts m c j)
def sendPay (c : Dev nD) (s : Fin 8) : sProp 𝕄 := owns (c : Thread nD τ) (slot sM s) fullShare (sent m c s)
def recvPay (c : Dev nD) (s : Fin 8) : sProp 𝕄 := owns (c : Thread nD τ) (slot rM s) fullShare (sent m (pt (rd s) c) s)

/-- Device `c`'s payload of transfer semaphore `i`. -/
def dmaPay (c : Dev nD) (i : ℕ) : sProp 𝕄 :=
  if i < 5 then copyPay m c (Fin.ofNat 4 (i - 1)) else if i < 13 then sendPay m c (Fin.ofNat 8 (i - 5)) else recvPay m c (Fin.ofNat 8 (i - 13))

/-- One round. -/
def ringRd : Rounds.Schedule (GSem nD τ sig) (Fin 4) 𝕄 where
  duties g r := if r = 0 ∧ g.1.2 = .tc then (match g.2 with | .reg _ => Finset.univ | .dma _ => {0}) else ∅
  unitless _ := False
  amount g _ _ := match g.2 with | .reg _ => 1 | .dma i => if i.val < 5 then NC else N
  payload g _ d := match g.2 with | .reg _ => barPay g.1.1 d | .dma i => dmaPay m g.1.1 i.val
  amount_pos g _ _ _ := by
    rcases g with ⟨t, _ | i⟩
    · exact Nat.one_pos
    · show 0 < if i.val < 5 then NC else N
      split
      · exact NC_pos
      · exact N_pos

theorem pts_storable (ℓ : Loc nD τ sig) (I : Finset (Idx ℓ)) (q : PosShare TreeShare) (f : Buf (Elt F) ℓ) :
    BI.Storable (upEmb : UEmb _ 𝕄) (ℓ ↦[I]{q} f : sProp 𝕄) := inferInstance
instance srcPts_storable (c : Dev nD) (j : Fin 4) : BI.Storable (upEmb : UEmb _ 𝕄) (srcPts m c j) := pts_storable _ _ _ _
instance copyPay_storable (c : Dev nD) (j : Fin 4) : BI.Storable (upEmb : UEmb _ 𝕄) (copyPay m c j) := by
  have h : BI.Storable (upEmb : UEmb _ 𝕄) (owns (c : Thread nD τ) (group xM j) fullShare (xs m c j)) := owns_storable _ _ _ _
  unfold copyPay; infer_instance
instance sendPay_storable (c : Dev nD) (s : Fin 8) : BI.Storable (upEmb : UEmb _ 𝕄) (sendPay m c s) := owns_storable _ _ _ _
instance recvPay_storable (c : Dev nD) (s : Fin 8) : BI.Storable (upEmb : UEmb _ 𝕄) (recvPay m c s) := owns_storable _ _ _ _

instance ringRd_payload_storable (g : GSem nD τ sig) (r : ℕ) (d : Fin 4) :
    BI.Storable (upEmb : UEmb _ 𝕄) ((ringRd m).payload g r d) := by
  rcases g with ⟨t, _ | i⟩
  · show BI.Storable upEmb (barPay t.1 d)
    unfold barPay slotAny
    infer_instance
  · show BI.Storable upEmb (dmaPay m t.1 i.val)
    unfold dmaPay
    (repeat' split) <;> infer_instance

section Sched
variable (c : Dev nD)

theorem duties_bar : (ringRd m).duties (barCell c) 0 = Finset.univ := by
  dsimp only [ringRd]; exact if_pos ⟨rfl, rfl⟩
theorem duties_dma (i : DmaSem sig) : (ringRd m).duties ((c : Thread nD τ), .dma i) 0 = {0} := by
  dsimp only [ringRd]; exact if_pos ⟨rfl, rfl⟩
theorem duties_later (g : GSem nD τ sig) : ∀ r, 1 ≤ r → (ringRd m).duties g r = ∅ :=
  fun r hr => by dsimp only [ringRd]; exact if_neg fun h => by have := h.1; omega

theorem amount_bar (d : Fin 4) : (ringRd m).amount (barCell c) 0 d = 1 := rfl
theorem amount_copy (j d : Fin 4) : (ringRd m).amount (copyCell c j) 0 d = NC := if_pos (by rw [copyS_val]; omega)
theorem amount_send (s : Fin 8) (d : Fin 4) : (ringRd m).amount (sendCell c s) 0 d = N := if_neg (by rw [sendS_val]; omega)
theorem amount_recv (s : Fin 8) (d : Fin 4) : (ringRd m).amount (recvCell c s) 0 d = N := if_neg (by rw [recvS_val]; omega)

theorem expect_bar : (ringRd m).expect (barCell c) 0 = 4 := by
  unfold Schedule.expect Schedule.amountOf
  rw [duties_bar, Finset.sum_congr rfl fun d _ => amount_bar m c d, Finset.sum_const, Finset.card_univ, Fintype.card_fin, smul_eq_mul]
theorem expect_copy (j : Fin 4) : (ringRd m).expect (copyCell c j) 0 = NC := by
  unfold Schedule.expect Schedule.amountOf; rw [duties_dma, Finset.sum_singleton, amount_copy]
theorem expect_send (s : Fin 8) : (ringRd m).expect (sendCell c s) 0 = N := by
  unfold Schedule.expect Schedule.amountOf; rw [duties_dma, Finset.sum_singleton, amount_send]
theorem expect_recv (s : Fin 8) : (ringRd m).expect (recvCell c s) 0 = N := by
  unfold Schedule.expect Schedule.amountOf; rw [duties_dma, Finset.sum_singleton, amount_recv]

theorem payload_bar (d : Fin 4) : (ringRd m).payload (barCell c) 0 d = barPay c d := rfl
theorem payload_copy (j d : Fin 4) : (ringRd m).payload (copyCell c j) 0 d = copyPay m c j := by
  show dmaPay m c (copyS j).val = _
  unfold dmaPay
  rw [copyS_val, if_pos (by omega), show Fin.ofNat 4 (1 + j.val - 1) = j by revert j; decide +kernel]
theorem payload_send (s : Fin 8) (d : Fin 4) : (ringRd m).payload (sendCell c s) 0 d = sendPay m c s := by
  show dmaPay m c (sendS s).val = _
  unfold dmaPay
  rw [sendS_val, if_neg (by omega), if_pos (by omega), show Fin.ofNat 8 (5 + s.val - 5) = s by revert s; decide +kernel]
theorem payload_recv (s : Fin 8) (d : Fin 4) : (ringRd m).payload (recvCell c s) 0 d = recvPay m c s := by
  show dmaPay m c (recvS s).val = _
  unfold dmaPay
  rw [recvS_val, if_neg (by omega), if_neg (by omega), show Fin.ofNat 8 (13 + s.val - 13) = s by revert s; decide +kernel]

theorem rest_bar : bigSep ((ringRd m).duties (barCell c) 0 \ ∅) (fun d => (ringRd m).payload (barCell c) 0 d)
    = iprop(barPay (F := F) c 0 ∗ barPay c 1 ∗ barPay c 2 ∗ barPay c 3) := by
  rw [Finset.sdiff_empty, duties_bar, bigSep_univ_eq_bigSepL [0, 1, 2, 3] (by decide) (by decide)]
  rfl
theorem rest_copy (j : Fin 4) : bigSep ((ringRd m).duties (copyCell c j) 0 \ ∅) (fun d => (ringRd m).payload (copyCell c j) 0 d)
    = copyPay m c j := by
  rw [Finset.sdiff_empty, duties_dma, bigSep_singleton, payload_copy]
theorem rest_send (s : Fin 8) : bigSep ((ringRd m).duties (sendCell c s) 0 \ ∅) (fun d => (ringRd m).payload (sendCell c s) 0 d)
    = sendPay m c s := by
  rw [Finset.sdiff_empty, duties_dma, bigSep_singleton, payload_send]
theorem rest_recv (s : Fin 8) : bigSep ((ringRd m).duties (recvCell c s) 0 \ ∅) (fun d => (ringRd m).payload (recvCell c s) 0 d)
    = recvPay m c s := by
  rw [Finset.sdiff_empty, duties_dma, bigSep_singleton, payload_recv]

end Sched

/-! ## What a device owes -/

/-- What device `c` still owes when the last `n` transfers are to be started. -/
def rem : ℕ → Dev nD → CellTallies nD τ sig Unit
  | 0, _ => 0
  | n + 1, c => rem n c + tallyAt (recvCell (pt (rd (Fin.ofNat 8 (7 - n))) c) (Fin.ofNat 8 (7 - n))) () N

/-- What device `c` still owes when the last `n` partners are to be told. -/
def remB : ℕ → Dev nD → CellTallies nD τ sig Unit
  | 0, c => rem 8 c
  | n + 1, c => remB n c + tallyAt (barCell (pt (Fin.ofNat 4 (3 - n)) c)) () 1

/-- What device `c` owes at launch. -/
def O₀ (c : Dev nD) : CellTallies nD τ sig Unit := remB 4 c

theorem rem_succ (s : Fin 8) (n : ℕ) (h : s.val + n = 7) (c : Dev nD) :
    rem (n + 1) c = rem n c + tallyAt (recvCell (pt (rd s) c) s) () N := by
  obtain rfl : Fin.ofNat 8 (7 - n) = s := by
    apply Fin.ext
    show (7 - n) % 8 = s.val
    omega
  rfl

theorem remB_succ (k : Fin 4) (n : ℕ) (h : k.val + n = 3) (c : Dev nD) :
    remB (n + 1) c = remB n c + tallyAt (barCell (pt k c)) () 1 := by
  obtain rfl : Fin.ofNat 4 (3 - n) = k := by
    apply Fin.ext
    show (3 - n) % 4 = k.val
    omega
  rfl

theorem add_tally_pos {O : CellTallies nD τ sig Unit} {g₀ g : GSem nD τ sig} {n : ℕ} {u : Unit}
    (h : 0 < (O + tallyAt g₀ () n) g u) : 0 < O g u ∨ g = g₀ := by
  rw [Pi.add_apply, Finsupp.add_apply, tallyAt_apply] at h
  by_cases hg : g = g₀
  · exact Or.inr hg
  · rw [if_neg (fun h' => hg h'.1)] at h
    exact Or.inl h

theorem rem_pos {n : ℕ} (hn : n ≤ 8) {c : Dev nD} {g : GSem nD τ sig} {u : Unit} (h : 0 < rem n c g u) :
    ∃ s : Fin 8, 8 ≤ s.val + n ∧ g = recvCell (pt (rd s) c) s := by
  induction n with
  | zero => exact absurd h (Nat.lt_irrefl 0)
  | succ n ih =>
    rcases add_tally_pos h with h | h
    · obtain ⟨s, hs, hg⟩ := ih (by omega) h
      exact ⟨s, by omega, hg⟩
    · exact ⟨_, by show 8 ≤ (7 - n) % 8 + (n + 1); omega, h⟩

theorem remB_pos {n : ℕ} {c : Dev nD} {g : GSem nD τ sig} {u : Unit} (h : 0 < remB n c g u) :
    (∃ d s, g = recvCell d s) ∨ ∃ d, g = barCell d := by
  induction n with
  | zero =>
    obtain ⟨s, -, hg⟩ := rem_pos (le_refl 8) h
    exact Or.inl ⟨_, _, hg⟩
  | succ n ih =>
    rcases add_tally_pos h with h | h
    · exact ih h
    · exact Or.inr ⟨_, h⟩

/-! ## The levels -/

def L (g : GSem nD τ sig) : Finset Unit := if g.1.2 = .tc then {()} else ∅

/-- The barrier at 1, the receive cell of slot `s` at `2 + s`, everything else at 0. -/
def lv (g : GSem nD τ sig) (_ : Unit) : ℕ := match g.2 with | .reg _ => 1 | .dma i => if i.val < 13 then 0 else i.val - 11

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_recv (c : Dev nD) (s : Fin 8) : lv (recvCell c s) () = 2 + s.val := by
  show (if (recvS s).val < 13 then 0 else (recvS s).val - 11) = _
  rw [recvS_val, if_neg (by omega)]; omega
theorem lv_low (c : Dev nD) (i : DmaSem sig) (h : i.val < 13) : lv ((c : Thread nD τ), .dma i) () = 0 := if_pos h

theorem mayWait_of (c : Dev nD) (sm : SemLoc sig) (O : CellTallies nD τ sig Unit)
    (h : ∀ g u, 0 < O g u → g.1.2 = .tc ∧ lv ((c : Thread nD τ), sm) () < lv g ()) :
    (levAts L lv : sProp 𝕄) ⊢ MayWait (c : Thread nD τ) sm () O :=
  Pipeline.mayWait_of_levAts (by rw [L_tc]; exact Finset.mem_singleton_self _)
    fun g u hg => ⟨by unfold L; rw [if_pos (h g u hg).1]; exact Finset.mem_singleton_self _, (h g u hg).2⟩

/-- At its barrier wait a device owes transfers only. -/
theorem mayWait_bar (c : Dev nD) : (levAts L lv : sProp 𝕄) ⊢ MayWait (c : Thread nD τ) (.reg barSem) () (rem 8 c) :=
  mayWait_of c _ _ fun g u hg => by
    obtain ⟨s, -, rfl⟩ := rem_pos (le_refl 8) hg
    exact ⟨rfl, by rw [lv_bar, lv_recv]; omega⟩

/-- At a copy's or a send's wait a device may owe any transfer. -/
theorem mayWait_low (c : Dev nD) (i : DmaSem sig) (h : i.val < 13) (n : ℕ) (hn : n ≤ 8) :
    (levAts L lv : sProp 𝕄) ⊢ MayWait (c : Thread nD τ) (.dma i) () (rem n c) :=
  mayWait_of c _ _ fun g u hg => by
    obtain ⟨s, -, rfl⟩ := rem_pos hn hg
    exact ⟨rfl, by rw [lv_low c i h, lv_recv]; omega⟩

/-- At slot `s`'s arrival a device owes later slots only. -/
theorem mayWait_recv (c : Dev nD) (s : Fin 8) (n : ℕ) (hn : s.val + n < 8) :
    (levAts L lv : sProp 𝕄) ⊢ MayWait (c : Thread nD τ) (.dma (recvS s)) () (rem n c) :=
  mayWait_of c _ _ fun g u hg => by
    obtain ⟨t, ht, rfl⟩ := rem_pos (by omega) hg
    exact ⟨rfl, by rw [lv_recv, lv_recv]; omega⟩

/-- At the staging's own waits a device owes what it owes at launch, or nothing. -/
theorem mayWait_stage (c : Dev nD) (i : DmaSem sig) (h : i.val < 13) (O : CellTallies nD τ sig Unit) (hO : O = O₀ c ∨ O = 0) :
    (levAts L lv : sProp 𝕄) ⊢ MayWait (c : Thread nD τ) (.dma i) () O :=
  mayWait_of c _ _ fun g u hg => by
    rcases hO with rfl | rfl
    · rcases remB_pos hg with ⟨d, s, rfl⟩ | ⟨d, rfl⟩
      · exact ⟨rfl, by rw [lv_low c i h, lv_recv]; omega⟩
      · exact ⟨rfl, by rw [lv_low c i h, lv_bar]; omega⟩
    · exact absurd hg (Nat.lt_irrefl 0)

/-! ## What a device's body starts from -/

/-- The cells' invariants and that every cell is at round 0: for all devices, and for good. -/
def records (K : Dev nD × CI → ℕ) : sProp 𝕄 :=
  iprop((bigSep Finset.univ fun ck : Dev nD × CI => cellInv ER (ringRd m) (K ck) (kcell ck))
    ∗ bigSep Finset.univ fun ck : Dev nD × CI => reached ER (kcell ck) 0)

instance records_persistent (K : Dev nD × CI → ℕ) : BI.Persistent (records m K) := by unfold records; infer_instance

theorem inv_of (K : Dev nD × CI → ℕ) (ck : Dev nD × CI) :
    (bigSep Finset.univ fun ck : Dev nD × CI => (cellInv ER (ringRd m) (K ck) (kcell ck) : sProp 𝕄)) ⊢ cellInv ER (ringRd m) (K ck) (kcell ck) :=
  bigSep_elim (Finset.mem_univ ck)
theorem reached_of (ck : Dev nD × CI) :
    (bigSep Finset.univ fun ck : Dev nD × CI => (reached ER (kcell ck) 0 : sProp 𝕄)) ⊢ reached ER (kcell ck) 0 :=
  bigSep_elim (Finset.mem_univ ck)

theorem inv_at (K : Dev nD × CI → ℕ) (ck : Dev nD × CI) : records m K ⊢ cellInv ER (ringRd m) (K ck) (kcell ck) := by
  unfold records
  iintro ⟨H, -⟩
  iapply (inv_of m K ck)
  iexact H
theorem reached_at (K : Dev nD × CI → ℕ) (ck : Dev nD × CI) : records m K ⊢ reached ER (kcell ck) 0 := by
  unfold records
  iintro ⟨-, H⟩
  iapply (reached_of (F := F) ck)
  iexact H

/-- Copy `j`'s ghost state: the position at its cell, and the duty's token. -/
def copyGhost (c : Dev nD) (j : Fin 4) : sProp 𝕄 := iprop(atPos ER (copyCell c j) 0 ∅ 0 ∗ dutyTok ER (copyCell c j) 0 0)

/-- Slot `s`'s ghost state: the positions at its two cells; the token of the own send cell and of the partner's receive cell. -/
def slotGhost (c : Dev nD) (s : Fin 8) : sProp 𝕄 :=
  iprop(atPos ER (sendCell c s) 0 ∅ 0 ∗ atPos ER (recvCell c s) 0 ∅ 0 ∗ dutyTok ER (sendCell c s) 0 0
    ∗ dutyTok ER (recvCell (pt (rd s) c) s) 0 0)

/-- What stays with device `c`: its positions, and the tokens of the duties it pays. -/
def linear (c : Dev nD) : sProp 𝕄 :=
  iprop(atPos ER (barCell c) 0 ∅ 0 ∗ (bigSep Finset.univ fun k : Fin 4 => dutyTok ER (barCell (pt k c)) 0 k)
    ∗ (bigSep Finset.univ fun j : Fin 4 => copyGhost (F := F) c j) ∗ bigSep Finset.univ fun s : Fin 8 => slotGhost (F := F) c s)

end Cert.KernelIdeal.Net

end
-- ==== Proof.Steps.lean ====
/-
  EACH STEP OF THE BODY, PROVED ONCE: what it takes and what it leaves, at a symbolic device and slot.
-/
module

public import proofs.«01_k».proof.Proof.Protocol
public import Idealize.ShloMosaic.Lib.Pipeline.Value

@[expose] public section

noncomputable section

namespace Cert.KernelIdeal.Net

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- Device `c` runs `p` and ends in `Q`. -/
abbrev runs {α : Type} (c : Dev nD) (p : TProg F α) (Q : α → sProp 𝕄) : sProp 𝕄 :=
  wp frame (wpE (defs₀ (F := F)) 𝒱₀ (c : Thread nD τ) none) Set.univ p Q

/-- One step, then the rest. -/
theorem step_then {α β : Type} {c : Dev nD} {p : TProg F α} {k : α → TProg F β} {P : sProp 𝕄} {Q : α → sProp 𝕄} {Kt : β → sProp 𝕄}
    (h : P ⊢ runs c p Q) : P ⊢ iprop((∀ a, Q a -∗ runs c (k a) Kt) -∗ runs c (p >>= k) Kt) := by
  unfold runs at *
  rw [wp_bind]
  exact h.trans (wp_wand _ _ _)

/-- The last step. -/
theorem step_last {α : Type} {c : Dev nD} {p : TProg F α} {P : sProp 𝕄} {Q Kt : α → sProp 𝕄}
    (h : P ⊢ runs c p Q) : P ⊢ iprop((∀ a, Q a -∗ Kt a) -∗ runs c p Kt) :=
  h.trans (wp_wand _ _ _)

/-- Nothing left to run. -/
theorem run_ret {α : Type} {c : Dev nD} (a : α) (Q : α → sProp 𝕄) : Q a ⊢ runs c (.ret a) Q := le_wp_ret _ _ _ a Q

/-- What device `c` owes, whatever waits it has made. -/
def owing (c : Dev nD) (O : CellTallies nD τ sig Unit) : sProp 𝕄 := iprop(∃ W, owes (c : Thread nD τ) O W)

/-! ## Slots -/

theorem slot_set (M : Memref sig .tc .vmem S8x128x128 .f32) (s : Fin 8) : (slot M s).view.set = (M.access (slotRect s)).set :=
  Memref.set_view_squeeze _ Facts₀.squeezes_S1x128x128_S128x128

theorem slot_read (M : Memref sig .tc .vmem S8x128x128 .f32) (s : Fin 8) (f : M.view.ty.Contents (Elt F)) :
    (slot M s).view.read (Elt F) f = ofSlot (M.view.readAt (Elt F) (slotRect s).toLoadRect f) :=
  Memref.read_squeeze_slice M (slotRect s) (fun _ => rfl) Facts₀.squeezes_S1x128x128_S128x128 Facts₀.shapeCasts_S1x128x128_S128x128 f

theorem ofSlot_toSlot (v : FVec F S128x128 .f32) : ofSlot (toSlot v) = v := shapeCast_shapeCast _ _ _

theorem slot_read_write (M : Memref sig .tc .vmem S8x128x128 .f32) (s : Fin 8) (f : M.view.ty.Contents (Elt F)) (v : FVec F S128x128 .f32) :
    (slot M s).view.read (Elt F) ((M.access (slotRect s)).write (Elt F) f (toSlot v) Finset.univ) = v := by
  rw [slot_read, View.readAt_rect]
  exact (congrArg ofSlot (View.read_write_univ (v := M.access (slotRect s)) f (toSlot v))).trans (ofSlot_toSlot v)

/-- A slot's contents as a load reads them. -/
def slotLoaded (M : Memref sig .tc .vmem S8x128x128 .f32) (s : Fin 8) (f : (slot M s).view.ty.Contents (Elt F)) : Vec F S1x128x128 .f32 :=
  M.view.readAt (Elt F) (slotRect s).toLoadRect f

/-- A slot's contents as a store leaves them. -/
def slotStored (M : Memref sig .tc .vmem S8x128x128 .f32) (s : Fin 8) (f : (slot M s).view.ty.Contents (Elt F)) (w : FVec F S1x128x128 .f32) :
    (slot M s).view.ty.Contents (Elt F) := (M.access (slotRect s)).write (Elt F) f w Finset.univ

/-- The load of a slot held. -/
theorem wp_load_slot {M : Memref sig .tc .vmem S8x128x128 .f32} {c : Dev nD} {s : Fin 8} {hl : M.view.LoadsAt (slotRect s).toLoadRect}
    {α : Type} {k : Vec F S1x128x128 .f32 → TProg F α} {Q : α → sProp 𝕄} (f : Buf (Elt F) ((slot M s).view.loc (c : Thread nD τ))) :
    ((slot M s).view.loc (c : Thread nD τ) ↦[(slot M s).view.set]{fullShare} f : sProp 𝕄)
      ⊢ iprop((((slot M s).view.loc (c : Thread nD τ) ↦[(slot M s).view.set]{fullShare} f)
            -∗ runs c (k (slotLoaded M s f)) Q)
          -∗ runs c (.op (.load M (slotRect s).toLoadRect hl) k) Q) :=
  wp_load 𝒱₀ (c : Thread nD τ) none Set.univ (m := M) (r := (slotRect s).toLoadRect) (S := (slot M s).view.set) (f := f)
    (by rw [slot_set]; exact (View.set_slice _ _).ge)

/-- The store to a slot held. -/
theorem wp_store_slot {M : Memref sig .tc .vmem S8x128x128 .f32} {c : Dev nD} {s : Fin 8} {w : FVec F S1x128x128 .f32}
    {hx : (M.access (slotRect s)).Stores Finset.univ} {hm}
    {α : Type} {k : PUnit → TProg F α} {Q : α → sProp 𝕄} (f : Buf (Elt F) ((slot M s).view.loc (c : Thread nD τ))) :
    ((slot M s).view.loc (c : Thread nD τ) ↦[(slot M s).view.set]{fullShare} f : sProp 𝕄)
      ⊢ iprop((((slot M s).view.loc (c : Thread nD τ) ↦[(slot M s).view.set]{fullShare}
              (slotStored M s f w)) -∗ runs c (k ⟨⟩) Q)
          -∗ runs c (.op (.store M (slotRect s) w Finset.univ hx hm) k) Q) :=
  wp_store 𝒱₀ (c : Thread nD τ) none Set.univ (m := M) (r := slotRect s) (Mk := Finset.univ) (S := (slot M s).view.set) (f := f)
    (by rw [slot_set]; exact (View.setOn_univ _).le)

/-- A slot at known contents is a slot. -/
theorem slotAny_of_owns (M : Memref sig .tc .vmem S8x128x128 .f32) (c : Dev nD) (s : Fin 8) (X : FVec F S128x128 .f32) :
    (owns (c : Thread nD τ) (slot M s) fullShare X : sProp 𝕄) ⊢ slotAny M c s := by
  unfold owns slotAny
  iintro ⟨%f, -, H⟩
  iexists f; iexact H

/-- Reading a slot. -/
theorem run_loadSlot (M : Memref sig .tc .vmem S8x128x128 .f32) (c : Dev nD) (s : Fin 8) (X : FVec F S128x128 .f32) :
    (owns (c : Thread nD τ) (slot M s) fullShare X : sProp 𝕄)
      ⊢ runs c (loadSlot M s) fun a => iprop(⌜ofSlot a = X⌝ ∗ owns (c : Thread nD τ) (slot M s) fullShare X) := by
  unfold loadSlot owns Prog.lift
  iintro ⟨%f, %hf, H⟩
  iapply (wp_load_slot f) $$ H
  iintro H
  iapply (run_ret _ _)
  isplitr; · ipureintro; exact (slot_read M s f).symm.trans hf
  iexists f
  isplitr; · ipureintro; exact hf
  iexact H

/-- Writing a slot. -/
theorem run_putSlot (M : Memref sig .tc .vmem S8x128x128 .f32) (c : Dev nD) (s : Fin 8) (v : FVec F S128x128 .f32) :
    (slotAny M c s : sProp 𝕄) ⊢ runs c (putSlot M s v) fun _ => owns (c : Thread nD τ) (slot M s) fullShare v := by
  unfold slotAny
  iintro ⟨%f, H⟩
  ihave H' := (owns_intro (c : Thread nD τ) (slot M s) fullShare f) $$ H
  unfold putSlot
  iapply (step_then (run_loadSlot M c s _)) $$ H'
  iintro %a
  unfold owns Prog.lift
  iintro ⟨-, %f, -, H⟩
  iapply (wp_store_slot f) $$ H
  iintro H
  iapply (run_ret _ _)
  iexists _
  isplitr; swap; · iexact H
  ipureintro; exact slot_read_write M s f v

/-! ## Telling the partners -/

variable (K : Dev nD × CI → ℕ)

theorem run_tell (c : Dev nD) (k : Fin 4) (n : ℕ) (h : k.val + n = 3) :
    iprop(records m K ∗ owing (F := F) c (remB (n + 1) c) ∗ dutyTok ER (barCell (pt k c)) 0 k
        ∗ slotAny (F := F) rM c (slotLo k) ∗ slotAny (F := F) rM c (slotHi k))
      ⊢ runs c (tell (F := F) k c) fun _ => owing (F := F) c (remB n c) := by
  unfold tell semSignalWord owing
  rw [barDev_eq]
  iintro ⟨#HR, ⟨%W, HO⟩, Ht, Hlo, Hhi⟩
  iapply (Rounds.wp_signal 𝒱₀ ER (ringRd m) (c : Thread nD τ) none (dst := (pt k c : Thread nD τ)) (κ := K (pt k c, .inl ())) (d := k)
      (by rw [duties_bar]; exact Finset.mem_univ _) ((amount_bar m (pt k c) k).trans (by decide)) () (remB n c) (remB_succ k n h c))
    $$ [HO Ht Hlo Hhi]
  · isplitr; · iapply (inv_at m K (pt k c, .inl ())); iexact HR
    isplitl [HO]; · iexact HO
    isplitl [Ht]; · iexact Ht
    isplitl [Hlo Hhi]
    · rw [payload_bar]; unfold barPay; rw [pt_pt]
      isplitl [Hlo] <;> iassumption
    iapply (reached_at m K (pt k c, .inl ())); iexact HR
  iintro HO
  iapply (run_ret _ _)
  iexists W; iexact HO

theorem run_barrier (c : Dev nD) :
    iprop(records m K ∗ owing (F := F) c (rem 8 c) ∗ cred (tallyAt (barCell c) () 4) ∗ atPos ER (barCell c) 0 ∅ 0 ∗ levAts L lv)
      ⊢ runs c (semWaitWord barSem 4#32) fun _ => iprop(owing (F := F) c (rem 8 c) ∗ semVal (barCell c) 0
          ∗ barPay (F := F) c 0 ∗ barPay (F := F) c 1 ∗ barPay (F := F) c 2 ∗ barPay (F := F) c 3) := by
  unfold semWaitWord owing
  iintro ⟨#HR, ⟨%W, HO⟩, Hc, Hat, Hlev⟩
  iapply (Rounds.wp_wait_rest_token 𝒱₀ ER (ringRd m) (c : Thread nD τ) none (κ := K (c, .inl ()))
      (wpE_semWait_eq 𝒱₀ (c : Thread nD τ) none Set.univ) (Set.mem_univ _) () (O := rem 8 c) (W := W) (R := 0) (m := 0) (T := ∅)
      (by rw [expect_bar]; decide)) $$ [Hc HO Hat Hlev]
  · isplitr; · iapply (inv_at m K (c, .inl ())); iexact HR
    isplitl [Hc]; · iexact Hc
    isplitl [HO]; · iexact HO
    isplitl [Hlev]; · iapply (mayWait_bar c); iexact Hlev
    iexact Hat
  iintro ⟨HO, Hat, -, Hpay⟩
  ihave Hp := (Entails.of_eq (rest_bar m c)) $$ Hpay
  imod (Rounds.cell_close ER (ringRd m) (Set.mem_univ (K (c, .inl ()))) (fun h => h) (R := 0 + 1) (duties_later m (barCell c))) $$ [Hat] with Hz
  · isplitr; · iapply (inv_at m K (c, .inl ())); iexact HR
    iexact Hat
  iapply (run_ret _ _)
  isplitl [HO]; · iexists _; iexact HO
  isplitl [Hz]; · iexact Hz
  iexact Hp

/-! ## The copies -/

/-- A staged row group, whatever it holds. -/
def groupAny (c : Dev nD) (j : Fin 4) : sProp 𝕄 :=
  iprop(∃ f, (group xM j).view.loc (c : Thread nD τ) ↦[(group xM j).view.set]{fullShare} f)

theorem group_set (j : Fin 4) : (group xM j).view.set = (xM.access (groupRect j)).set :=
  Memref.set_view_squeeze _ Facts₀.squeezes_S1x256x1024_S256x1024

theorem group_read (j : Fin 4) (f : xM.view.ty.Contents (Elt F)) :
    (group xM j).view.read (Elt F) f = rowGroup (xM.view.readAt (Elt F) (groupRect j).toLoadRect f) :=
  Memref.read_squeeze_slice xM (groupRect j) (fun _ => rfl) Facts₀.squeezes_S1x256x1024_S256x1024 Facts₀.shapeCasts_S1x256x1024_S256x1024 f

theorem run_startCopy (c : Dev nD) (j : Fin 4) :
    iprop(records m K ∗ srcPts m c j ∗ groupAny (F := F) c j ∗ dutyTok ER (copyCell c j) 0 0)
      ⊢ runs c (startCopy (F := F) aM xM cc0_scratch4 j c) fun _ => cred (tallyAt (copyCell c j) () NC) := by
  unfold startCopy Prog.lift groupAny srcPts
  iintro ⟨#HR, Hs, ⟨%f, Hg⟩, Ht⟩
  iapply (Rounds.wp_copy_pointsTo 𝒱₀ ER (ringRd m) (c : Thread nD τ) none (src := src aM j c) (dst := group xM j) (sem := .dma (copyS j))
      (κ := K (c, .inr (.inl j))) (r := 0) (d := 0) (fs := m ((c : Thread nD τ).loc main_arg0)) (fd := f) (q := fullShare)
      (by rw [duties_dma]; exact Finset.mem_singleton_self _) () NC rfl (amount_copy m c j 0)
      (by
        rw [payload_copy]; unfold copyPay
        refine sep_mono ?_ .rfl
        have h := owns_intro (c : Thread nD τ) (group xM j) fullShare (Ix := Unit) (Name := ℕ) (U := UU) (Lvl := ℕ)
          ((group xM j).view.write (Elt F) f ((src aM j c).view.read (Elt F) (m ((c : Thread nD τ).loc main_arg0))) Finset.univ)
        rw [View.read_write_univ] at h
        exact h)) $$ [Hs Hg Ht]
  · isplitr; · iapply (inv_at m K (c, .inr (.inl j))); iexact HR
    isplitl [Hs]; · iexact Hs
    isplitl [Hg]; · iexact Hg
    isplitl [Ht]; · iexact Ht
    iapply (reached_at m K (c, .inr (.inl j))); iexact HR
  iintro Hc
  iapply (run_ret _ _)
  iexact Hc

theorem run_waitCopy (c : Dev nD) (j : Fin 4) :
    iprop(records m K ∗ owing (F := F) c (rem 8 c) ∗ cred (tallyAt (copyCell c j) () NC) ∗ atPos ER (copyCell c j) 0 ∅ 0 ∗ levAts L lv)
      ⊢ runs c (waitCopy (F := F) aM xM cc0_scratch4 j c) fun _ => iprop(owing (F := F) c (rem 8 c) ∗ semVal (copyCell c j) 0 ∗ copyPay m c j) := by
  unfold waitCopy Prog.lift owing
  iintro ⟨#HR, ⟨%W, HO⟩, Hc, Hat, Hlev⟩
  iapply (Rounds.wp_wait_rest_token 𝒱₀ ER (ringRd m) (c : Thread nD τ) none (κ := K (c, .inr (.inl j)))
      (wpE_waitDma2_eq (src := src aM j c) (dst := group xM j) (hsrc := View.wordExact_bits rfl) (hdst := (View.wordExact_bits rfl).reshape _ _)
        𝒱₀ (c : Thread nD τ) none Set.univ) (Set.mem_univ _) () (O := rem 8 c) (W := W) (R := 0) (m := 0) (T := ∅)
      (by rw [Nat.zero_add, expect_copy])) $$ [Hc HO Hat Hlev]
  · isplitr; · iapply (inv_at m K (c, .inr (.inl j))); iexact HR
    isplitl [Hc]; · iexact Hc
    isplitl [HO]; · iexact HO
    isplitl [Hlev]; · iapply (mayWait_low c (copyS j) (by rw [copyS_val]; omega) 8 (le_refl 8)); iexact Hlev
    iexact Hat
  iintro ⟨HO, Hat, -, Hpay⟩
  ihave Hp := (Entails.of_eq (rest_copy m c j)) $$ Hpay
  imod (Rounds.cell_close ER (ringRd m) (Set.mem_univ (K (c, .inr (.inl j)))) (fun h => h) (R := 0 + 1) (duties_later m (copyCell c j))) $$ [Hat] with Hz
  · isplitr; · iapply (inv_at m K (c, .inr (.inl j))); iexact HR
    iexact Hat
  iapply (run_ret _ _)
  isplitl [HO]; · iexists _; iexact HO
  isplitl [Hz]; · iexact Hz
  iexact Hp

/-- A row group's contents as a load reads them. -/
def groupLoaded (j : Fin 4) (f : (group xM j).view.ty.Contents (Elt F)) : Vec F S1x256x1024 .f32 :=
  xM.view.readAt (Elt F) (groupRect j).toLoadRect f

/-- The load of a row group held. -/
theorem wp_load_group {c : Dev nD} {j : Fin 4} {hl : xM.view.LoadsAt (groupRect j).toLoadRect}
    {α : Type} {k : Vec F S1x256x1024 .f32 → TProg F α} {Q : α → sProp 𝕄} (f : Buf (Elt F) ((group xM j).view.loc (c : Thread nD τ))) :
    ((group xM j).view.loc (c : Thread nD τ) ↦[(group xM j).view.set]{fullShare} f : sProp 𝕄)
      ⊢ iprop((((group xM j).view.loc (c : Thread nD τ) ↦[(group xM j).view.set]{fullShare} f)
            -∗ runs c (k (groupLoaded j f)) Q)
          -∗ runs c (.op (.load xM (groupRect j).toLoadRect hl) k) Q) :=
  wp_load 𝒱₀ (c : Thread nD τ) none Set.univ (m := xM) (r := (groupRect j).toLoadRect) (S := (group xM j).view.set) (f := f)
    (by rw [group_set]; exact (View.set_slice _ _).ge)

theorem run_loadGroup (c : Dev nD) (j : Fin 4) (X : FVec F S256x1024 .f32) :
    (owns (c : Thread nD τ) (group xM j) fullShare X : sProp 𝕄)
      ⊢ runs c (loadGroup (F := F) xM j) fun a => iprop(⌜rowGroup a = X⌝ ∗ groupAny (F := F) c j) := by
  unfold loadGroup owns Prog.lift groupAny
  iintro ⟨%f, %hf, H⟩
  iapply (wp_load_group f) $$ H
  iintro H
  iapply (run_ret _ _)
  isplitr; · ipureintro; exact (group_read j f).symm.trans hf
  iexists f
  iexact H

/-! ## The transfers -/

/-- Slot `s` in flight: the positions and the credits its two waits take. -/
def inFlight (c : Dev nD) (s : Fin 8) : sProp 𝕄 :=
  iprop(atPos ER (sendCell c s) 0 ∅ 0 ∗ atPos ER (recvCell c s) 0 ∅ 0 ∗ cred (tallyAt (sendCell c s) () N) ∗ cred (tallyAt (recvCell c s) () N))

/-- Slot `s` done with. -/
def slotDone (c : Dev nD) (s : Fin 8) : sProp 𝕄 :=
  iprop(slotAny (F := F) sM c s ∗ slotAny (F := F) rM c s ∗ semVal (sendCell c s) 0 ∗ semVal (recvCell c s) 0)

/-- Before slot `s` is started: its ghost state and the credit of its arrival. -/
def slotIdle (c : Dev nD) (s : Fin 8) : sProp 𝕄 := iprop(slotGhost (F := F) c s ∗ cred (tallyAt (recvCell c s) () N))

/-- The transfer from slot `s`, the device it goes to given with an equation. -/
theorem wp_send_slot (c n : Dev nD) (s : Fin 8) (hn : n = pt (rd s) c)
    {hsc : (slot rM s : Memref sig (Dev.tc n : Thread nD τ).2.kind .vmem S128x128 .f32).view.ref.isScScratch = false}
    {hsrc : (slot sM s).view.WordExact} {hdst : (slot rM s).view.WordExact}
    {hsem : DmaTarget.Typed .vmem (.dma (recvS s)) (.remote (Dev.tc n : Thread nD τ) (slot rM s) (.dma (sendS s)) hsc)}
    {α : Type} {Q : α → sProp 𝕄} {k : PUnit → TProg F α} (W : Waits sig Unit) (r : ℕ) (hr : s.val + r = 7)
    (fs : Buf (Elt F) ((slot sM s).view.loc (c : Thread nD τ))) (hfs : (slot sM s).view.read (Elt F) fs = sent m c s)
    (fd : Buf (Elt F) ((slot rM s).view.loc (pt (rd s) c : Thread nD τ))) :
    iprop(cellInv ER (ringRd m) (K (c, .inr (.inr (.inl s)))) (sendCell c s)
        ∗ cellInv ER (ringRd m) (K (pt (rd s) c, .inr (.inr (.inr s)))) (recvCell (pt (rd s) c) s)
        ∗ ((slot sM s).view.loc (c : Thread nD τ) ↦[(slot sM s).view.set]{fullShare} fs)
        ∗ ((slot rM s).view.loc (pt (rd s) c : Thread nD τ) ↦[(slot rM s).view.set]{fullShare} fd)
        ∗ owes (c : Thread nD τ) (rem (r + 1) c) W
        ∗ dutyTok ER (sendCell c s) 0 0 ∗ reached ER (sendCell c s) 0
        ∗ dutyTok ER (recvCell (pt (rd s) c) s) 0 0 ∗ reached ER (recvCell (pt (rd s) c) s) 0)
      ⊢ iprop(((cred (tallyAt (sendCell c s) () N) ∗ owes (c : Thread nD τ) (rem r c) W) -∗ runs c (k ⟨⟩) Q)
          -∗ runs c (.op (.enqueueDma (slot sM s) (.remote (Dev.tc n : Thread nD τ) (slot rM s) (.dma (sendS s)) hsc) (.dma (recvS s)) hsrc hdst hsem) k) Q) := by
  subst hn
  exact Rounds.wp_send_pointsTo 𝒱₀ ER (ringRd m) (c : Thread nD τ) none (κ₁ := K (c, .inr (.inr (.inl s))))
    (κ₂ := K (pt (rd s) c, .inr (.inr (.inr s)))) (r₁ := 0) (r₂ := 0) (d₁ := 0) (d₂ := 0) (fd := fd)
    (by rw [duties_dma]; exact Finset.mem_singleton_self _) (by rw [duties_dma]; exact Finset.mem_singleton_self _)
    () () N rfl (amount_send m c s 0) (amount_recv m (pt (rd s) c) s 0) (rem r c) (rem_succ s r hr c) (W := W)
    (by
      rw [payload_send]; unfold sendPay
      have h := owns_intro (c : Thread nD τ) (slot sM s) fullShare (Ix := Unit) (Name := ℕ) (U := UU) (Lvl := ℕ) fs
      rw [hfs] at h; exact h)
    (by
      rw [payload_recv]; unfold recvPay
      have h := owns_intro (pt (rd s) c : Thread nD τ) (slot rM s) fullShare (Ix := Unit) (Name := ℕ) (U := UU) (Lvl := ℕ)
        ((slot rM s).view.write (Elt F) fd ((slot sM s).view.read (Elt F) fs) Finset.univ)
      rw [View.read_write_univ, hfs] at h
      rw [pt_pt, hfs]
      exact h)

theorem run_startSend (c : Dev nD) (s : Fin 8) (r : ℕ) (hr : s.val + r = 7) :
    iprop(records m K ∗ owing (F := F) c (rem (r + 1) c) ∗ owns (c : Thread nD τ) (slot sM s) fullShare (sent m c s)
        ∗ slotAny (F := F) rM (pt (rd s) c) s ∗ slotIdle (F := F) c s)
      ⊢ runs c (startSend (F := F) sM rM cc0_scratch5 cc0_scratch6 s c) fun _ => iprop(owing (F := F) c (rem r c) ∗ inFlight (F := F) c s) := by
  unfold startSend Prog.lift owing slotAny slotIdle slotGhost inFlight owns
  iintro ⟨#HR, ⟨%W, HO⟩, ⟨%fs, %hfs, Hs⟩, ⟨%fd, Hd⟩, ⟨HaS, HaR, HtS, HtR⟩, HcR⟩
  iapply (wp_send_slot m K c (sendDev s c) s (sendDev_eq s c) W r hr fs hfs fd) $$ [HO Hs Hd HtS HtR]
  · isplitr; · iapply (inv_at m K (c, .inr (.inr (.inl s)))); iexact HR
    isplitr; · iapply (inv_at m K (pt (rd s) c, .inr (.inr (.inr s)))); iexact HR
    isplitl [Hs]; · iexact Hs
    isplitl [Hd]; · iexact Hd
    isplitl [HO]; · iexact HO
    isplitl [HtS]; · iexact HtS
    isplitr; · iapply (reached_at m K (c, .inr (.inr (.inl s)))); iexact HR
    isplitl [HtR]; · iexact HtR
    iapply (reached_at m K (pt (rd s) c, .inr (.inr (.inr s)))); iexact HR
  iintro ⟨HcS, HO⟩
  iapply (run_ret _ _)
  isplitl [HO]; · iexists _; iexact HO
  isplitl [HaS]; · iexact HaS
  isplitl [HaR]; · iexact HaR
  isplitl [HcS] <;> iassumption

/-- The wait that gives slot `s` back. -/
theorem run_waitSend (c : Dev nD) (s : Fin 8) (n : ℕ) (hn : n ≤ 8) {α : Type} {k : PUnit → TProg F α} {Q : α → sProp 𝕄}
    {h₁ : (slot rM s).view.WordExact} {h₂ : (slot sM s).view.WordExact} :
    iprop(records m K ∗ owing (F := F) c (rem n c) ∗ cred (tallyAt (sendCell c s) () N) ∗ atPos ER (sendCell c s) 0 ∅ 0 ∗ levAts L lv)
      ⊢ iprop(((owing (F := F) c (rem n c) ∗ semVal (sendCell c s) 0 ∗ sendPay m c s) -∗ runs c (k ⟨⟩) Q)
          -∗ runs c (.op (.waitDma2 (sendS s) (slot rM s) (slot sM s) h₁ h₂) k) Q) := by
  unfold owing
  iintro ⟨#HR, ⟨%W, HO⟩, Hc, Hat, Hlev⟩ Hk
  iapply (Rounds.wp_wait_rest_token 𝒱₀ ER (ringRd m) (c : Thread nD τ) none (κ := K (c, .inr (.inr (.inl s))))
      (wpE_waitDma2_eq (src := slot rM s) (dst := slot sM s) (hsrc := h₁) (hdst := h₂) 𝒱₀ (c : Thread nD τ) none Set.univ) (Set.mem_univ _) () (O := rem n c) (W := W) (R := 0) (m := 0) (T := ∅)
      (by rw [Nat.zero_add, expect_send])) $$ [Hc HO Hat Hlev]
  · isplitr; · iapply (inv_at m K (c, .inr (.inr (.inl s)))); iexact HR
    isplitl [Hc]; · iexact Hc
    isplitl [HO]; · iexact HO
    isplitl [Hlev]; · iapply (mayWait_low c (sendS s) (by rw [sendS_val]; omega) n hn); iexact Hlev
    iexact Hat
  iintro ⟨HO, Hat, -, Hpay⟩
  ihave Hp := (Entails.of_eq (rest_send m c s)) $$ Hpay
  imod (Rounds.cell_close ER (ringRd m) (Set.mem_univ (K (c, .inr (.inr (.inl s))))) (fun h => h) (R := 0 + 1) (duties_later m (sendCell c s))) $$ [Hat] with Hz
  · isplitr; · iapply (inv_at m K (c, .inr (.inr (.inl s)))); iexact HR
    iexact Hat
  iapply Hk
  isplitl [HO]; · iexists _; iexact HO
  isplitl [Hz] <;> iassumption

/-- The wait for the partner's slot `s`. -/
theorem run_waitRecv (c : Dev nD) (s : Fin 8) (n : ℕ) (hn : s.val + n < 8) {α : Type} {k : PUnit → TProg F α} {Q : α → sProp 𝕄}
    {h₁ : (slot sM s).view.WordExact} {h₂ : (slot rM s).view.WordExact} :
    iprop(records m K ∗ owing (F := F) c (rem n c) ∗ cred (tallyAt (recvCell c s) () N) ∗ atPos ER (recvCell c s) 0 ∅ 0 ∗ levAts L lv)
      ⊢ iprop(((owing (F := F) c (rem n c) ∗ semVal (recvCell c s) 0 ∗ recvPay m c s) -∗ runs c (k ⟨⟩) Q)
          -∗ runs c (.op (.waitDma2 (recvS s) (slot sM s) (slot rM s) h₁ h₂) k) Q) := by
  unfold owing
  iintro ⟨#HR, ⟨%W, HO⟩, Hc, Hat, Hlev⟩ Hk
  iapply (Rounds.wp_wait_rest_token 𝒱₀ ER (ringRd m) (c : Thread nD τ) none (κ := K (c, .inr (.inr (.inr s))))
      (wpE_waitDma2_eq (src := slot sM s) (dst := slot rM s) (hsrc := h₁) (hdst := h₂) 𝒱₀ (c : Thread nD τ) none Set.univ) (Set.mem_univ _) () (O := rem n c) (W := W) (R := 0) (m := 0) (T := ∅)
      (by rw [Nat.zero_add, expect_recv])) $$ [Hc HO Hat Hlev]
  · isplitr; · iapply (inv_at m K (c, .inr (.inr (.inr s)))); iexact HR
    isplitl [Hc]; · iexact Hc
    isplitl [HO]; · iexact HO
    isplitl [Hlev]; · iapply (mayWait_recv c s n hn); iexact Hlev
    iexact Hat
  iintro ⟨HO, Hat, -, Hpay⟩
  ihave Hp := (Entails.of_eq (rest_recv m c s)) $$ Hpay
  imod (Rounds.cell_close ER (ringRd m) (Set.mem_univ (K (c, .inr (.inr (.inr s))))) (fun h => h) (R := 0 + 1) (duties_later m (recvCell c s))) $$ [Hat] with Hz
  · isplitr; · iapply (inv_at m K (c, .inr (.inr (.inr s)))); iexact HR
    iexact Hat
  iapply Hk
  isplitl [HO]; · iexists _; iexact HO
  isplitl [Hz] <;> iassumption

theorem run_exchange (c : Dev nD) (s : Fin 8) (n : ℕ) (hn : s.val + n < 8) :
    iprop(records m K ∗ levAts L lv ∗ owing (F := F) c (rem n c) ∗ inFlight (F := F) c s)
      ⊢ runs c (exchange (F := F) sM rM cc0_scratch5 cc0_scratch6 s) fun a =>
          iprop(⌜a = merge (sent m c s) (sent m (pt (rd s) c) s)⌝ ∗ owing (F := F) c (rem n c) ∗ slotDone (F := F) c s) := by
  unfold exchange inFlight
  iintro ⟨#HR, #Hlev, HO, HaS, HaR, HcS, HcR⟩
  simp only [Prog.lift, Prog.bind_op, Prog.bind_ret]
  iapply (run_waitSend m K c s n (by omega) (h₁ := (View.wordExact_bits rfl).reshape _ _) (h₂ := (View.wordExact_bits rfl).reshape _ _)) $$ [HO HcS HaS]
  · isplitr; · iexact HR
    isplitl [HO]; · iexact HO
    isplitl [HcS]; · iexact HcS
    isplitl [HaS]; · iexact HaS
    iexact Hlev
  iintro ⟨HO, HzS, Hs⟩
  iapply (run_waitRecv m K c s n hn (h₁ := (View.wordExact_bits rfl).reshape _ _) (h₂ := (View.wordExact_bits rfl).reshape _ _)) $$ [HO HcR HaR]
  · isplitr; · iexact HR
    isplitl [HO]; · iexact HO
    isplitl [HcR]; · iexact HcR
    isplitl [HaR]; · iexact HaR
    iexact Hlev
  iintro ⟨HO, HzR, Hr⟩
  unfold sendPay recvPay
  iapply (step_then (run_loadSlot sM c s _)) $$ Hs
  iintro %a ⟨%ha, Hs⟩
  iapply (step_then (run_loadSlot rM c s _)) $$ Hr
  iintro %b ⟨%hb, Hr⟩
  rw [ha, hb, Prog.pure_eq_ret]
  iapply (run_ret _ _)
  isplitr; · ipureintro; rfl
  isplitl [HO]; · iexact HO
  unfold slotDone
  isplitl [Hs]; · iapply (slotAny_of_owns sM c s _); iexact Hs
  isplitl [Hr]; · iapply (slotAny_of_owns rM c s _); iexact Hr
  isplitl [HzS] <;> iassumption

/-- A step that goes on: slot `s` merged into slot `t`, and slot `t` sent. -/
theorem run_midStep (c : Dev nD) (s t : Fin 8) (ht : t.val = s.val + 2) (r : ℕ) (hr : t.val + r = 7) :
    iprop(records m K ∗ levAts L lv ∗ owing (F := F) c (rem (r + 1) c) ∗ inFlight (F := F) c s
        ∗ slotAny (F := F) sM c t ∗ slotAny (F := F) rM (pt (rd t) c) t ∗ slotIdle (F := F) c t)
      ⊢ runs c (midStep (F := F) sM rM cc0_scratch5 cc0_scratch6 s t c) fun _ =>
          iprop(owing (F := F) c (rem r c) ∗ slotDone (F := F) c s ∗ inFlight (F := F) c t) := by
  unfold midStep
  iintro ⟨#HR, #Hlev, HO, Hf, Hst, Hrt, Hid⟩
  iapply (step_then (run_exchange m K c s (r + 1) (by omega))) $$ [HO Hf]
  · isplitr; · iexact HR
    isplitr; · iexact Hlev
    isplitl [HO] <;> iassumption
  iintro %a ⟨%ha, HO, Hdone⟩
  rw [merge_sent_next m c s t ht] at ha
  subst ha
  iapply (step_then (run_putSlot sM c t _)) $$ Hst
  iintro %_ Hst
  iapply (step_last (run_startSend m K c t r hr)) $$ [HO Hst Hrt Hid]
  · isplitr; · iexact HR
    isplitl [HO]; · iexact HO
    isplitl [Hst]; · iexact Hst
    isplitl [Hrt] <;> iassumption
  iintro %_ ⟨HO, Hf⟩
  isplitl [HO]; · iexact HO
  isplitl [Hdone] <;> iassumption

end Cert.KernelIdeal.Net

end
-- ==== Proof.Result.lean ====
/-
  THE LAST ROUND AND THE RESULT: each merged half goes to its rows of the merged block, and each segment of that to its rows of the result.
-/
module

public import proofs.«01_k».proof.Proof.Steps
public import Idealize.ShloMosaic.Lib.Pipeline.Value

@[expose] public section

noncomputable section

namespace Cert.KernelIdeal.Net

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The buffers written in parts -/

/-- The merged block once a half of it has been stored. -/
def halfStored (h : Fin 2) (f : FVec F S256x128 .f32) (v : FVec F S128x128 .f32) : FVec F S256x128 .f32 :=
  (gM.access (halfRect h)).write (Elt F) f (shapeCast S128x128 v Facts₀.shapeCasts_S128x128_S128x128) Finset.univ

theorem halfStored_apply (h : Fin 2) (f : FVec F S256x128 .f32) (v : FVec F S128x128 .f32) (i : S256x128.Idx) :
    halfStored h f v i = if (i 0).val / 128 = h.val then v (ix2 (⟨(i 0).val % 128, Nat.mod_lt _ (by decide)⟩ : Fin 128) (i 1 : Fin 128)) else f i := by
  unfold halfStored
  refine (congrFun (View.write_whole_slice_unit (Val := Elt F) cc0_scratch1 ![128 * h.val, 0] S128x128.size (inb_half h) f _) i).trans ?_
  unfold updateSlice
  have h0 : (i 0).val < 256 := (i 0).isLt
  have h1 : (i 1).val < 128 := (i 1).isLt
  by_cases hh : (i 0).val / 128 = h.val
  · rw [if_pos hh, dif_pos (by
      refine Fin.forall_fin_two.mpr ⟨⟨?_, ?_⟩, ⟨?_, ?_⟩⟩
      · show 128 * h.val ≤ (i 0).val; omega
      · show (i 0).val < 128 * h.val + 128; omega
      · show 0 ≤ _; omega
      · show (i 1).val < 0 + 128; omega), shapeCast_self]
    congr 1
    funext a
    match a with
    | 0 => exact Fin.ext (by show (i 0).val - 128 * h.val = (i 0).val % 128; omega)
    | 1 => exact Fin.ext (by show (i 1).val - 0 = (i 1).val; omega)
  · rw [if_neg hh, dif_neg]
    intro hall
    have := hall 0
    have h2 : 128 * h.val ≤ (i 0).val ∧ (i 0).val < 128 * h.val + 128 := this
    omega

/-- Both halves stored are the merged block, whatever was there. -/
theorem halves_merged (c : Dev nD) (f : FVec F S256x128 .f32) :
    halfStored 1 (halfStored 0 f (acc m 4 c 0)) (acc m 4 c 1) = merged m c := by
  funext i
  have h0 : (i 0).val < 256 := (i 0).isLt
  rw [halfStored_apply, halfStored_apply]
  unfold merged
  rcases (by omega : (i 0).val / 128 = 0 ∨ (i 0).val / 128 = 1) with h | h
  · rw [if_neg (by rw [h]; decide), if_pos (by rw [h]; rfl)]
    exact congrFun (congrArg (acc m 4 c) (Fin.ext h.symm)) _
  · rw [if_pos (by rw [h]; rfl)]
    exact congrFun (congrArg (acc m 4 c) (Fin.ext h.symm)) _

/-- Segment `j` of the merged block as a load reads it. -/
def segLoaded (j : Fin 4) (g : FVec F S256x128 .f32) : FVec F S256x32 .f32 := gM.view.readAt (Elt F) (segRect j).toLoadRect g

theorem segLoaded_apply (j : Fin 4) (g : FVec F S256x128 .f32) (i : S256x32.Idx) :
    segLoaded j g i = g (ix2 (i 0 : Fin 256) (⟨32 * j.val + (i 1).val, by have h1 : (i 1).val < 32 := (i 1).isLt; omega⟩ : Fin 128)) := by
  show g _ = g _
  congr 1
  funext a
  match a with
  | 0 => exact Fin.ext (by show 0 + 1 * (i 0).val = (i 0).val; omega)
  | 1 => exact Fin.ext (by show 32 * j.val + 1 * (i 1).val = 32 * j.val + (i 1).val; omega)

/-- The result once a row group of it has been stored. -/
def outStored (j : Fin 4) (f : FVec F S1024x32 .f32) (w : FVec F S256x32 .f32) : FVec F S1024x32 .f32 :=
  (oM.access (outRect j)).write (Elt F) f w Finset.univ

theorem outStored_apply (j : Fin 4) (f : FVec F S1024x32 .f32) (w : FVec F S256x32 .f32) (i : S1024x32.Idx) :
    outStored j f w i = if (i 0).val / 256 = j.val then w (ix2 (⟨(i 0).val % 256, Nat.mod_lt _ (by decide)⟩ : Fin 256) (i 1 : Fin 32)) else f i := by
  unfold outStored
  refine (congrFun (View.write_whole_slice_unit (Val := Elt F) cc0_stg0_0 ![256 * j.val, 0] S256x32.size (inb_out j) f _) i).trans ?_
  unfold updateSlice
  have h0 : (i 0).val < 1024 := (i 0).isLt
  have h1 : (i 1).val < 32 := (i 1).isLt
  by_cases hh : (i 0).val / 256 = j.val
  · rw [if_pos hh, dif_pos (by
      refine Fin.forall_fin_two.mpr ⟨⟨?_, ?_⟩, ⟨?_, ?_⟩⟩
      · show 256 * j.val ≤ (i 0).val; omega
      · show (i 0).val < 256 * j.val + 256; omega
      · show 0 ≤ _; omega
      · show (i 1).val < 0 + 32; omega)]
    congr 1
    funext a
    match a with
    | 0 => exact Fin.ext (by show (i 0).val - 256 * j.val = (i 0).val % 256; omega)
    | 1 => exact Fin.ext (by show (i 1).val - 0 = (i 1).val; omega)
  · rw [if_neg hh, dif_neg]
    intro hall
    have h2 : 256 * j.val ≤ (i 0).val ∧ (i 0).val < 256 * j.val + 256 := hall 0
    omega

/-- All four row groups stored are the result, whatever was there. -/
theorem groups_outAt (c : Dev nD) (f : FVec F S1024x32 .f32) :
    outStored 3 (outStored 2 (outStored 1 (outStored 0 f (segLoaded 0 (merged m c))) (segLoaded 1 (merged m c))) (segLoaded 2 (merged m c)))
      (segLoaded 3 (merged m c)) = outAt m c := by
  funext i
  have h0 : (i 0).val < 1024 := (i 0).isLt
  rw [outStored_apply, outStored_apply, outStored_apply, outStored_apply]
  unfold outAt
  have key : ∀ j : Fin 4, (i 0).val / 256 = j.val →
      segLoaded j (merged m c) (ix2 (⟨(i 0).val % 256, Nat.mod_lt _ (by decide)⟩ : Fin 256) (i 1 : Fin 32))
        = merged m c (ix2 (⟨(i 0).val % 256, Nat.mod_lt _ (by decide)⟩ : Fin 256) (⟨32 * ((i 0).val / 256) + (i 1).val, by
            have h1 : (i 1).val < 32 := (i 1).isLt
            omega⟩ : Fin 128)) := by
    intro j hj
    rw [segLoaded_apply]
    congr 1
    funext a
    match a with
    | 0 => rfl
    | 1 => exact Fin.ext (by show 32 * j.val + (i 1).val = 32 * ((i 0).val / 256) + (i 1).val; rw [hj])
  rcases (by omega : (i 0).val / 256 = 0 ∨ (i 0).val / 256 = 1 ∨ (i 0).val / 256 = 2 ∨ (i 0).val / 256 = 3) with h | h | h | h
  · rw [if_neg (by rw [h]; decide), if_neg (by rw [h]; decide), if_neg (by rw [h]; decide), if_pos (by rw [h]; rfl)]; exact key 0 h
  · rw [if_neg (by rw [h]; decide), if_neg (by rw [h]; decide), if_pos (by rw [h]; rfl)]; exact key 1 h
  · rw [if_neg (by rw [h]; decide), if_pos (by rw [h]; rfl)]; exact key 2 h
  · rw [if_pos (by rw [h]; rfl)]; exact key 3 h

/-! ## The steps that write them -/

/-- A buffer of device `c` held whole. -/
abbrev holds (c : Dev nD) (b : Ref sig .tc) (f : b.ty.Contents (Elt F)) : sProp 𝕄 := (c : Thread nD τ).loc b ↦{fullShare} f

variable (K : Dev nD × CI → ℕ)

/-- The last round's step: slot `s` merged into half `h`. -/
theorem run_lastStep (c : Dev nD) (s : Fin 8) (h : Fin 2) (f : FVec F S256x128 .f32) :
    iprop(records m K ∗ levAts L lv ∗ owing (F := F) c (rem 0 c) ∗ inFlight (F := F) c s ∗ holds c cc0_scratch1 f)
      ⊢ runs c (lastStep (F := F) gM sM rM cc0_scratch5 cc0_scratch6 s h) fun _ =>
          iprop(owing (F := F) c (rem 0 c) ∗ slotDone (F := F) c s
            ∗ holds c cc0_scratch1 (halfStored h f (merge (sent m c s) (sent m (pt (rd s) c) s)))) := by
  unfold lastStep
  iintro ⟨#HR, #Hlev, HO, Hf, Hg⟩
  iapply (step_then (run_exchange m K c s 0 (by omega))) $$ [HO Hf]
  · isplitr; · iexact HR
    isplitr; · iexact Hlev
    isplitl [HO] <;> iassumption
  iintro %a ⟨%ha, HO, Hdone⟩
  subst ha
  simp only [Prog.lift, Prog.bind_op, Prog.bind_ret]
  iapply (wp_load 𝒱₀ (c : Thread nD τ) none Set.univ (m := gM) (r := (halfRect h).toLoadRect) (S := Finset.univ) (f := f) (Finset.subset_univ _)) $$ Hg
  iintro Hg
  iapply (wp_store 𝒱₀ (c : Thread nD τ) none Set.univ (m := gM) (r := halfRect h) (Mk := Finset.univ) (S := Finset.univ) (f := f) (Finset.subset_univ _)) $$ Hg
  iintro Hg
  iapply (run_ret _ _)
  isplitl [HO]; · iexact HO
  isplitl [Hdone]; · iexact Hdone
  iexact Hg

/-- Segment `j` goes to its rows of the result. -/
theorem run_outStep (c : Dev nD) (j : Fin 4) (g : FVec F S256x128 .f32) (f : FVec F S1024x32 .f32) :
    iprop(holds c cc0_scratch1 g ∗ holds c cc0_stg0_0 f)
      ⊢ runs c (outStep (F := F) oM gM j) fun _ => iprop(holds c cc0_scratch1 g ∗ holds c cc0_stg0_0 (outStored j f (segLoaded j g))) := by
  unfold outStep
  iintro ⟨Hg, Ho⟩
  simp only [Prog.lift, Prog.bind_op, Prog.bind_ret]
  iapply (wp_load 𝒱₀ (c : Thread nD τ) none Set.univ (m := gM) (r := (segRect j).toLoadRect) (S := Finset.univ) (f := g) (Finset.subset_univ _)) $$ Hg
  iintro Hg
  iapply (wp_load 𝒱₀ (c : Thread nD τ) none Set.univ (m := oM) (r := (outRect j).toLoadRect) (S := Finset.univ) (f := f) (Finset.subset_univ _)) $$ Ho
  iintro Ho
  iapply (wp_store 𝒱₀ (c : Thread nD τ) none Set.univ (m := oM) (r := outRect j) (Mk := Finset.univ) (S := Finset.univ) (f := f) (Finset.subset_univ _)) $$ Ho
  iintro Ho
  iapply (run_ret _ _)
  isplitl [Hg]; · iexact Hg
  iexact Ho

end Cert.KernelIdeal.Net

end
-- ==== Proof.Body.lean ====
/-
  THE WHOLE BODY, STEP AFTER STEP, at a symbolic device: from what the launch hands it to the result and everything given back.
-/
module

public import proofs.«01_k».proof.Proof.Result
public import Idealize.ShloMosaic.Lib.Pipeline.Value

@[expose] public section

noncomputable section

namespace Cert.KernelIdeal.Net

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CI → ℕ)

/-- Four members, listed. -/
theorem four (Φ : Fin 4 → sProp 𝕄) : bigSep Finset.univ Φ = iprop(Φ 0 ∗ Φ 1 ∗ Φ 2 ∗ Φ 3) := by
  rw [bigSep_univ_eq_bigSepL [0, 1, 2, 3] (by decide) (by decide)]; rfl

/-- Eight members, listed. -/
theorem eight (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]; rfl

/-- The landing slots that the four partners hand over, by slot. -/
theorem barPay_slots (c : Dev nD) :
    iprop(barPay (F := F) c 0 ∗ barPay (F := F) c 1 ∗ barPay (F := F) c 2 ∗ barPay (F := F) c 3)
      = iprop((slotAny (F := F) rM (pt (rd 0) c) 0 ∗ slotAny (F := F) rM (pt (rd 1) c) 1) ∗ (slotAny (F := F) rM (pt (rd 2) c) 2 ∗ slotAny (F := F) rM (pt (rd 3) c) 3)
        ∗ (slotAny (F := F) rM (pt (rd 4) c) 4 ∗ slotAny (F := F) rM (pt (rd 5) c) 5) ∗ (slotAny (F := F) rM (pt (rd 6) c) 6 ∗ slotAny (F := F) rM (pt (rd 7) c) 7)) := rfl

/-! ## The entry: the partners told, and awaited -/

/-- What the entry takes. -/
def entryPre (c : Dev nD) : sProp 𝕄 :=
  iprop(owing (F := F) c (remB 4 c) ∗ cred (tallyAt (barCell c) () 4) ∗ atPos ER (barCell c) 0 ∅ 0
    ∗ (bigSep Finset.univ fun k : Fin 4 => dutyTok ER (barCell (pt k c)) 0 k) ∗ bigSep Finset.univ fun s : Fin 8 => slotAny (F := F) rM c s)

/-- What it leaves. -/
def entryPost (c : Dev nD) : sProp 𝕄 :=
  iprop(owing (F := F) c (rem 8 c) ∗ semVal (barCell c) 0 ∗ bigSep Finset.univ fun s : Fin 8 => slotAny (F := F) rM (pt (rd s) c) s)

theorem run_entry (c : Dev nD) {β : Type} {k : PUnit → TProg F β} {Kt : β → sProp 𝕄} :
    iprop(records m K ∗ levAts L lv ∗ entryPre (F := F) c)
      ⊢ iprop((entryPost (F := F) c -∗ runs c (k ⟨⟩) Kt)
          -∗ runs c (tell 0 c >>= fun _ => tell 1 c >>= fun _ => tell 2 c >>= fun _ => tell 3 c >>= fun _ => semWaitWord barSem 4#32 >>= k) Kt) := by
  unfold entryPre entryPost
  rw [four, eight, eight]
  iintro ⟨#HR, #Hlev, HO, Hc, Hat, ⟨Ht0, Ht1, Ht2, Ht3⟩, Hr0, Hr1, Hr2, Hr3, Hr4, Hr5, Hr6, Hr7⟩ Hk
  iapply (step_then (run_tell m K c 0 3 rfl)) $$ [HO Ht0 Hr0 Hr1]
  · isplitr; · iexact HR
    isplitl [HO]; · iexact HO
    isplitl [Ht0]; · iexact Ht0
    isplitl [Hr0]; · iexact Hr0
    iexact Hr1
  iintro %_ HO
  iapply (step_then (run_tell m K c 1 2 rfl)) $$ [HO Ht1 Hr2 Hr3]
  · isplitr; · iexact HR
    isplitl [HO]; · iexact HO
    isplitl [Ht1]; · iexact Ht1
    isplitl [Hr2]; · iexact Hr2
    iexact Hr3
  iintro %_ HO
  iapply (step_then (run_tell m K c 2 1 rfl)) $$ [HO Ht2 Hr4 Hr5]
  · isplitr; · iexact HR
    isplitl [HO]; · iexact HO
    isplitl [Ht2]; · iexact Ht2
    isplitl [Hr4]; · iexact Hr4
    iexact Hr5
  iintro %_ HO
  iapply (step_then (run_tell m K c 3 0 rfl)) $$ [HO Ht3 Hr6 Hr7]
  · isplitr; · iexact HR
    isplitl [HO]; · iexact HO
    isplitl [Ht3]; · iexact Ht3
    isplitl [Hr6]; · iexact Hr6
    iexact Hr7
  iintro %_ HO
  iapply (step_then (run_barrier m K c)) $$ [HO Hc Hat]
  · isplitr; · iexact HR
    isplitl [HO]; · iexact HO
    isplitl [Hc]; · iexact Hc
    isplitl [Hat]; · iexact Hat
    iexact Hlev
  iintro %_ ⟨HO, Hz, Hp⟩
  ihave Hp := (Entails.of_eq (barPay_slots (F := F) c)) $$ Hp
  icases Hp with ⟨⟨H0, H1⟩, ⟨H2, H3⟩, ⟨H4, H5⟩, H6, H7⟩
  iapply Hk
  isplitl [HO]; · iexact HO
  isplitl [Hz]; · iexact Hz
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## The copies: started, awaited, and read -/

/-- What row group `j`'s copy takes. -/
def copyPre (c : Dev nD) (j : Fin 4) : sProp 𝕄 := iprop(srcPts m c j ∗ groupAny (F := F) c j ∗ copyGhost (F := F) c j)

/-- What it leaves. -/
def copyPost (c : Dev nD) (j : Fin 4) : sProp 𝕄 := iprop(srcPts m c j ∗ groupAny (F := F) c j ∗ semVal (copyCell c j) 0)

theorem run_copies (c : Dev nD) {β : Type}
    {k : Vec F S1x256x1024 .f32 → Vec F S1x256x1024 .f32 → Vec F S1x256x1024 .f32 → Vec F S1x256x1024 .f32 → TProg F β} {Kt : β → sProp 𝕄} :
    iprop(records m K ∗ levAts L lv ∗ owing (F := F) c (rem 8 c) ∗ bigSep Finset.univ fun j : Fin 4 => copyPre m c j)
      ⊢ iprop((∀ x0 x1 x2 x3, ⌜rowGroup x0 = xs m c 0 ∧ rowGroup x1 = xs m c 1 ∧ rowGroup x2 = xs m c 2 ∧ rowGroup x3 = xs m c 3⌝
            -∗ owing (F := F) c (rem 8 c) -∗ (bigSep Finset.univ fun j : Fin 4 => copyPost m c j) -∗ runs c (k x0 x1 x2 x3) Kt)
          -∗ runs c (startCopy aM xM cc0_scratch4 0 c >>= fun _ => startCopy aM xM cc0_scratch4 1 c >>= fun _ =>
              startCopy aM xM cc0_scratch4 2 c >>= fun _ => startCopy aM xM cc0_scratch4 3 c >>= fun _ =>
              waitCopy aM xM cc0_scratch4 0 c >>= fun _ => waitCopy aM xM cc0_scratch4 1 c >>= fun _ =>
              waitCopy aM xM cc0_scratch4 2 c >>= fun _ => waitCopy aM xM cc0_scratch4 3 c >>= fun _ =>
              loadGroup xM 0 >>= fun x0 => loadGroup xM 1 >>= fun x1 => loadGroup xM 2 >>= fun x2 => loadGroup xM 3 >>= fun x3 => k x0 x1 x2 x3) Kt) := by
  rw [four, four]
  unfold copyPre copyPost copyGhost
  iintro ⟨#HR, #Hlev, HO, ⟨Hs0, Hg0, Ha0, Ht0⟩, ⟨Hs1, Hg1, Ha1, Ht1⟩, ⟨Hs2, Hg2, Ha2, Ht2⟩, Hs3, Hg3, Ha3, Ht3⟩ Hk
  iapply (step_then (run_startCopy m K c 0)) $$ [Hs0 Hg0 Ht0]
  · isplitr; · iexact HR
    isplitl [Hs0]; · iexact Hs0
    isplitl [Hg0] <;> iassumption
  iintro %_ Hc0
  iapply (step_then (run_startCopy m K c 1)) $$ [Hs1 Hg1 Ht1]
  · isplitr; · iexact HR
    isplitl [Hs1]; · iexact Hs1
    isplitl [Hg1] <;> iassumption
  iintro %_ Hc1
  iapply (step_then (run_startCopy m K c 2)) $$ [Hs2 Hg2 Ht2]
  · isplitr; · iexact HR
    isplitl [Hs2]; · iexact Hs2
    isplitl [Hg2] <;> iassumption
  iintro %_ Hc2
  iapply (step_then (run_startCopy m K c 3)) $$ [Hs3 Hg3 Ht3]
  · isplitr; · iexact HR
    isplitl [Hs3]; · iexact Hs3
    isplitl [Hg3] <;> iassumption
  iintro %_ Hc3
  iapply (step_then (run_waitCopy m K c 0)) $$ [HO Hc0 Ha0]
  · isplitr; · iexact HR
    isplitl [HO]; · iexact HO
    isplitl [Hc0]; · iexact Hc0
    isplitl [Ha0]; · iexact Ha0
    iexact Hlev
  iintro %_ ⟨HO, Hz0, Hp0⟩
  iapply (step_then (run_waitCopy m K c 1)) $$ [HO Hc1 Ha1]
  · isplitr; · iexact HR
    isplitl [HO]; · iexact HO
    isplitl [Hc1]; · iexact Hc1
    isplitl [Ha1]; · iexact Ha1
    iexact Hlev
  iintro %_ ⟨HO, Hz1, Hp1⟩
  iapply (step_then (run_waitCopy m K c 2)) $$ [HO Hc2 Ha2]
  · isplitr; · iexact HR
    isplitl [HO]; · iexact HO
    isplitl [Hc2]; · iexact Hc2
    isplitl [Ha2]; · iexact Ha2
    iexact Hlev
  iintro %_ ⟨HO, Hz2, Hp2⟩
  iapply (step_then (run_waitCopy m K c 3)) $$ [HO Hc3 Ha3]
  · isplitr; · iexact HR
    isplitl [HO]; · iexact HO
    isplitl [Hc3]; · iexact Hc3
    isplitl [Ha3]; · iexact Ha3
    iexact Hlev
  iintro %_ ⟨HO, Hz3, Hp3⟩
  unfold copyPay
  icases Hp0 with ⟨Hg0, Hs0⟩
  iapply (step_then (run_loadGroup c 0 _)) $$ Hg0
  iintro %x0 ⟨%hx0, Hg0⟩
  icases Hp1 with ⟨Hg1, Hs1⟩
  iapply (step_then (run_loadGroup c 1 _)) $$ Hg1
  iintro %x1 ⟨%hx1, Hg1⟩
  icases Hp2 with ⟨Hg2, Hs2⟩
  iapply (step_then (run_loadGroup c 2 _)) $$ Hg2
  iintro %x2 ⟨%hx2, Hg2⟩
  icases Hp3 with ⟨Hg3, Hs3⟩
  iapply (step_then (run_loadGroup c 3 _)) $$ Hg3
  iintro %x3 ⟨%hx3, Hg3⟩
  ispecialize Hk $$ %x0 %x1 %x2 %x3
  iapply Hk $$ [] HO
  · ipureintro; exact ⟨hx0, hx1, hx2, hx3⟩
  isplitl [Hs0 Hg0 Hz0]
  · isplitl [Hs0]; · iexact Hs0
    isplitl [Hg0] <;> iassumption
  isplitl [Hs1 Hg1 Hz1]
  · isplitl [Hs1]; · iexact Hs1
    isplitl [Hg1] <;> iassumption
  isplitl [Hs2 Hg2 Hz2]
  · isplitl [Hs2]; · iexact Hs2
    isplitl [Hg2] <;> iassumption
  isplitl [Hs3]; · iexact Hs3
  isplitl [Hg3] <;> iassumption

/-! ## The rounds -/

/-- The last two slots' merges, stored, are the merged block. -/
theorem slots_merged (c : Dev nD) (g : FVec F S256x128 .f32) :
    halfStored 1 (halfStored 0 g (merge (sent m c 6) (sent m (pt (rd 6) c) 6))) (merge (sent m c 7) (sent m (pt (rd 7) c) 7)) = merged m c := by
  rw [merge_sent m c 6, merge_sent m c 7]
  exact halves_merged m c g

/-- What slot `s` takes: the own slot, the partner's, and its ghost state. -/
def slotPre (c : Dev nD) (s : Fin 8) : sProp 𝕄 :=
  iprop(slotAny (F := F) sM c s ∗ slotAny (F := F) rM (pt (rd s) c) s ∗ slotIdle (F := F) c s)

/-- The partners' slots, with the own slots and the ghost state. -/
theorem slotPre_join (c : Dev nD) :
    iprop((bigSep Finset.univ fun s : Fin 8 => slotAny (F := F) rM (pt (rd s) c) s)
        ∗ bigSep Finset.univ fun s : Fin 8 => iprop(slotAny (F := F) sM c s ∗ slotIdle (F := F) c s))
      ⊢ bigSep Finset.univ fun s : Fin 8 => slotPre (F := F) c s := by
  refine (Entails.of_eq (BI.bigSep_sep Finset.univ (fun s : Fin 8 => slotAny (F := F) rM (pt (rd s) c) s)
    (fun s : Fin 8 => iprop(slotAny (F := F) sM c s ∗ slotIdle (F := F) c s))).symm).trans (BI.bigSep_mono fun s _ => ?_)
  show iprop(slotAny (F := F) rM (pt (rd s) c) s ∗ slotAny (F := F) sM c s ∗ slotIdle (F := F) c s) ⊢ slotPre (F := F) c s
  unfold slotPre
  iintro ⟨H1, H2, H3⟩
  isplitl [H2]; · iexact H2
  isplitl [H1] <;> iassumption

theorem run_rounds (c : Dev nD) (g : FVec F S256x128 .f32) {β : Type} {k : PUnit → TProg F β} {Kt : β → sProp 𝕄} :
    iprop(records m K ∗ levAts L lv ∗ owing (F := F) c (rem 8 c) ∗ holds c cc0_scratch1 g ∗ bigSep Finset.univ fun s : Fin 8 => slotPre (F := F) c s)
      ⊢ iprop((iprop(owing (F := F) c (rem 0 c) ∗ holds c cc0_scratch1 (merged m c) ∗ bigSep Finset.univ fun s : Fin 8 => slotDone (F := F) c s)
            -∗ runs c (k ⟨⟩) Kt)
          -∗ runs c (putSlot sM 0 (half 0 (base m c)) >>= fun _ => putSlot sM 1 (half 1 (base m c)) >>= fun _ =>
              startSend sM rM cc0_scratch5 cc0_scratch6 0 c >>= fun _ => startSend sM rM cc0_scratch5 cc0_scratch6 1 c >>= fun _ =>
              midStep sM rM cc0_scratch5 cc0_scratch6 0 2 c >>= fun _ => midStep sM rM cc0_scratch5 cc0_scratch6 1 3 c >>= fun _ =>
              midStep sM rM cc0_scratch5 cc0_scratch6 2 4 c >>= fun _ => midStep sM rM cc0_scratch5 cc0_scratch6 3 5 c >>= fun _ =>
              midStep sM rM cc0_scratch5 cc0_scratch6 4 6 c >>= fun _ => midStep sM rM cc0_scratch5 cc0_scratch6 5 7 c >>= fun _ =>
              lastStep gM sM rM cc0_scratch5 cc0_scratch6 6 0 >>= fun _ => lastStep gM sM rM cc0_scratch5 cc0_scratch6 7 1 >>= k) Kt) := by
  rw [eight, eight]
  unfold slotPre
  iintro ⟨#HR, #Hlev, HO, Hg, ⟨Hs0, Hr0, Hi0⟩, ⟨Hs1, Hr1, Hi1⟩, ⟨Hs2, Hr2, Hi2⟩, ⟨Hs3, Hr3, Hi3⟩, ⟨Hs4, Hr4, Hi4⟩, ⟨Hs5, Hr5, Hi5⟩, ⟨Hs6, Hr6, Hi6⟩, Hs7, Hr7, Hi7⟩ Hk
  iapply (step_then (run_putSlot sM c 0 (half 0 (base m c)))) $$ Hs0
  iintro %_ Hs0
  iapply (step_then (run_putSlot sM c 1 (half 1 (base m c)))) $$ Hs1
  iintro %_ Hs1
  iapply (step_then (run_startSend m K c 0 7 rfl)) $$ [HO Hs0 Hr0 Hi0]
  · isplitr; · iexact HR
    isplitl [HO]; · iexact HO
    isplitl [Hs0]; · iexact Hs0
    isplitl [Hr0] <;> iassumption
  iintro %_ ⟨HO, Hf0⟩
  iapply (step_then (run_startSend m K c 1 6 rfl)) $$ [HO Hs1 Hr1 Hi1]
  · isplitr; · iexact HR
    isplitl [HO]; · iexact HO
    isplitl [Hs1]; · iexact Hs1
    isplitl [Hr1] <;> iassumption
  iintro %_ ⟨HO, Hf1⟩
  iapply (step_then (run_midStep m K c 0 2 rfl 5 rfl)) $$ [HO Hf0 Hs2 Hr2 Hi2]
  · isplitr; · iexact HR
    isplitr; · iexact Hlev
    isplitl [HO]; · iexact HO
    isplitl [Hf0]; · iexact Hf0
    isplitl [Hs2]; · iexact Hs2
    isplitl [Hr2] <;> iassumption
  iintro %_ ⟨HO, Hd0, Hf2⟩
  iapply (step_then (run_midStep m K c 1 3 rfl 4 rfl)) $$ [HO Hf1 Hs3 Hr3 Hi3]
  · isplitr; · iexact HR
    isplitr; · iexact Hlev
    isplitl [HO]; · iexact HO
    isplitl [Hf1]; · iexact Hf1
    isplitl [Hs3]; · iexact Hs3
    isplitl [Hr3] <;> iassumption
  iintro %_ ⟨HO, Hd1, Hf3⟩
  iapply (step_then (run_midStep m K c 2 4 rfl 3 rfl)) $$ [HO Hf2 Hs4 Hr4 Hi4]
  · isplitr; · iexact HR
    isplitr; · iexact Hlev
    isplitl [HO]; · iexact HO
    isplitl [Hf2]; · iexact Hf2
    isplitl [Hs4]; · iexact Hs4
    isplitl [Hr4] <;> iassumption
  iintro %_ ⟨HO, Hd2, Hf4⟩
  iapply (step_then (run_midStep m K c 3 5 rfl 2 rfl)) $$ [HO Hf3 Hs5 Hr5 Hi5]
  · isplitr; · iexact HR
    isplitr; · iexact Hlev
    isplitl [HO]; · iexact HO
    isplitl [Hf3]; · iexact Hf3
    isplitl [Hs5]; · iexact Hs5
    isplitl [Hr5] <;> iassumption
  iintro %_ ⟨HO, Hd3, Hf5⟩
  iapply (step_then (run_midStep m K c 4 6 rfl 1 rfl)) $$ [HO Hf4 Hs6 Hr6 Hi6]
  · isplitr; · iexact HR
    isplitr; · iexact Hlev
    isplitl [HO]; · iexact HO
    isplitl [Hf4]; · iexact Hf4
    isplitl [Hs6]; · iexact Hs6
    isplitl [Hr6] <;> iassumption
  iintro %_ ⟨HO, Hd4, Hf6⟩
  iapply (step_then (run_midStep m K c 5 7 rfl 0 rfl)) $$ [HO Hf5 Hs7 Hr7 Hi7]
  · isplitr; · iexact HR
    isplitr; · iexact Hlev
    isplitl [HO]; · iexact HO
    isplitl [Hf5]; · iexact Hf5
    isplitl [Hs7]; · iexact Hs7
    isplitl [Hr7] <;> iassumption
  iintro %_ ⟨HO, Hd5, Hf7⟩
  iapply (step_then (run_lastStep m K c 6 0 _)) $$ [HO Hf6 Hg]
  · isplitr; · iexact HR
    isplitr; · iexact Hlev
    isplitl [HO]; · iexact HO
    isplitl [Hf6] <;> iassumption
  iintro %_ ⟨HO, Hd6, Hg⟩
  iapply (step_then (run_lastStep m K c 7 1 _)) $$ [HO Hf7 Hg]
  · isplitr; · iexact HR
    isplitr; · iexact Hlev
    isplitl [HO]; · iexact HO
    isplitl [Hf7] <;> iassumption
  iintro %_ ⟨HO, Hd7, Hg⟩
  ihave Hg := (Entails.of_eq (congrArg (holds (F := F) c cc0_scratch1) (slots_merged m c g))) $$ Hg
  iapply Hk
  isplitl [HO]; · iexact HO
  isplitl [Hg]; · iexact Hg
  isplitl [Hd0]; · iexact Hd0
  isplitl [Hd1]; · iexact Hd1
  isplitl [Hd2]; · iexact Hd2
  isplitl [Hd3]; · iexact Hd3
  isplitl [Hd4]; · iexact Hd4
  isplitl [Hd5]; · iexact Hd5
  isplitl [Hd6]; · iexact Hd6
  iexact Hd7

/-! ## The result -/

theorem run_outs (c : Dev nD) (f : FVec F S1024x32 .f32) {Kt : PUnit → sProp 𝕄} :
    iprop(holds c cc0_scratch1 (merged m c) ∗ holds c cc0_stg0_0 f)
      ⊢ iprop((iprop(holds c cc0_scratch1 (merged m c) ∗ holds c cc0_stg0_0 (outAt m c)) -∗ Kt ⟨⟩)
          -∗ runs c (outStep oM gM 0 >>= fun _ => outStep oM gM 1 >>= fun _ => outStep oM gM 2 >>= fun _ => outStep oM gM 3) Kt) := by
  iintro H Hk
  iapply (step_then (run_outStep c 0 _ _)) $$ H
  iintro %_ H
  iapply (step_then (run_outStep c 1 _ _)) $$ H
  iintro %_ H
  iapply (step_then (run_outStep c 2 _ _)) $$ H
  iintro %_ H
  iapply (step_last (run_outStep c 3 _ _)) $$ H
  iintro %_ ⟨Hg, Ho⟩
  ihave Ho := (Entails.of_eq (congrArg (holds (F := F) c cc0_stg0_0) (groups_outAt m c f))) $$ Ho
  iapply Hk
  isplitl [Hg] <;> iassumption

/-! ## The body -/

/-- What the body takes, but for what it shares with every device. -/
def runPre (c : Dev nD) : sProp 𝕄 :=
  iprop(entryPre (F := F) c ∗ (bigSep Finset.univ fun j : Fin 4 => copyPre m c j)
    ∗ (bigSep Finset.univ fun s : Fin 8 => iprop(slotAny (F := F) sM c s ∗ slotIdle (F := F) c s))
    ∗ (∃ g, holds c cc0_scratch1 g) ∗ ∃ f, holds c cc0_stg0_0 f)

/-- What it leaves. -/
def runPost (c : Dev nD) : sProp 𝕄 :=
  iprop(owing (F := F) c 0 ∗ semVal (barCell c) 0 ∗ (bigSep Finset.univ fun j : Fin 4 => copyPost m c j)
    ∗ (bigSep Finset.univ fun s : Fin 8 => slotDone (F := F) c s) ∗ (∃ g, holds c cc0_scratch1 g) ∗ holds c cc0_stg0_0 (outAt m c))

theorem run_body (c : Dev nD) (Kt : PUnit → sProp 𝕄) :
    iprop(records m K ∗ levAts L lv ∗ runPre m c ∗ (runPost m c -∗ Kt ⟨⟩))
      ⊢ runs c (cleanBody (F := F) aM oM xM gM sM rM cc0_scratch4 cc0_scratch5 cc0_scratch6) Kt := by
  unfold runPre runPost cleanBody
  iintro ⟨#HR, #Hlev, ⟨He, Hc, Hs, ⟨%g, Hg⟩, ⟨%f, Hf⟩⟩, Hk⟩
  simp only [Prog.lift, Prog.bind_op, Prog.bind_ret]
  iapply (Entails.of_eq (wp_deviceId 𝒱₀ (c : Thread nD τ) none Set.univ).symm)
  iapply (run_entry m K c) $$ [He]
  · isplitr; · iexact HR
    isplitr; · iexact Hlev
    iexact He
  unfold entryPost
  iintro ⟨HO, Hz, Hr⟩
  iapply (run_copies m K c) $$ [HO Hc]
  · isplitr; · iexact HR
    isplitr; · iexact Hlev
    isplitl [HO] <;> iassumption
  iintro %x0 %x1 %x2 %x3 %hx HO Hc
  rw [hx.1, hx.2.1, hx.2.2.1, hx.2.2.2]
  iapply (run_rounds m K c g) $$ [HO Hg Hr Hs]
  · isplitr; · iexact HR
    isplitr; · iexact Hlev
    isplitl [HO]; · iexact HO
    isplitl [Hg]; · iexact Hg
    iapply (slotPre_join c)
    isplitl [Hr] <;> iassumption
  iintro ⟨HO, Hg, Hd⟩
  iapply (run_outs m c f) $$ [Hg Hf]
  · isplitl [Hg] <;> iassumption
  iintro ⟨Hg, Ho⟩
  iapply Hk
  isplitl [HO]; · iexact HO
  isplitl [Hz]; · iexact Hz
  isplitl [Hc]; · iexact Hc
  isplitl [Hd]; · iexact Hd
  isplitl [Hg]; · iexists _; iexact Hg
  iexact Ho

end Cert.KernelIdeal.Net

end
-- ==== Proof.Cut.lean ====
/-
  THE BUFFERS CUT AND JOINED: a buffer of eight slots into its slots, the staged columns into their row groups, and the device's own columns
  into the four parts that are copied.
-/
module

public import proofs.«01_k».proof.Proof.Body
public import Idealize.ShloMosaic.Lib.Ring.FamCut
public import Idealize.ShloMosaic.Lib.Pipeline.Value

@[expose] public section

noncomputable section

namespace Cert.KernelIdeal.Net

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Slots -/

theorem sM_mem (s : Fin 8) (i : S8x128x128.Idx) (h : i ∈ (slot sM s).view.set) : (i 0).val = s.val := by
  have e : (slot sM s).view.set = Finset.map sM.view.emb (slotRect s).set := (slot_set sM s).trans (View.set_slice _ _)
  obtain ⟨j, hj, rfl⟩ := Finset.mem_map.mp (e.subset h)
  have h0 : s.val ≤ (j 0).val ∧ (j 0).val < s.val + 1 := Rect.mem_set_unit.mp hj 0
  show (j 0).val = s.val
  omega

theorem rM_mem (s : Fin 8) (i : S8x128x128.Idx) (h : i ∈ (slot rM s).view.set) : (i 0).val = s.val := by
  have e : (slot rM s).view.set = Finset.map rM.view.emb (slotRect s).set := (slot_set rM s).trans (View.set_slice _ _)
  obtain ⟨j, hj, rfl⟩ := Finset.mem_map.mp (e.subset h)
  have h0 : s.val ≤ (j 0).val ∧ (j 0).val < s.val + 1 := Rect.mem_set_unit.mp hj 0
  show (j 0).val = s.val
  omega

theorem xM_mem (s : Fin 4) (i : S4x256x1024.Idx) (h : i ∈ (group xM s).view.set) : (i 0).val = s.val := by
  have e : (group xM s).view.set = Finset.map xM.view.emb (groupRect s).set := (group_set s).trans (View.set_slice _ _)
  obtain ⟨j, hj, rfl⟩ := Finset.mem_map.mp (e.subset h)
  have h0 : s.val ≤ (j 0).val ∧ (j 0).val < s.val + 1 := Rect.mem_set_unit.mp hj 0
  show (j 0).val = s.val
  omega

/-- Where row group `j`'s part of the columns starts. -/
theorem srcOff_eq (j : Fin 4) (c : Dev nD) : srcOff j c = ![256 * j.val, 4096 * (c.val / 4 % 2) + 1024 * (c.val % 4)] := by
  revert j c; decide +kernel

theorem src_mem (c : Dev nD) (s : Fin 4) (i : S1024x8192.Idx) (h : i ∈ (src aM s c).view.set) : (i 0).val / 256 = s.val := by
  have e : (src aM s c).view.set = Finset.map aM.view.emb (Rect.unit (s := S1024x8192) (srcOff s c) S256x1024.size (srcOff_inb s c)).set := View.set_slice _ _
  obtain ⟨j, hj, rfl⟩ := Finset.mem_map.mp (e.subset h)
  have h0 : srcOff s c 0 ≤ (j 0).val ∧ (j 0).val < srcOff s c 0 + 256 := Rect.mem_set_unit.mp hj 0
  rw [srcOff_eq] at h0
  have h1 : 256 * s.val ≤ (j 0).val ∧ (j 0).val < 256 * s.val + 256 := h0
  show (j 0).val / 256 = s.val
  omega

/-- Sets whose members tell their index are disjoint. -/
theorem disjoint_of_tag {ι α : Type} {I : ι → Finset α} (t : α → ℕ) (v : ι → ℕ) (hv : Function.Injective v) (h : ∀ s i, i ∈ I s → t i = v s)
    (a b : ι) (hab : a ≠ b) : Disjoint (I a) (I b) :=
  Finset.disjoint_left.mpr fun i ha hb => hab (hv ((h a i ha).symm.trans (h b i hb)))

/-- What the slots leave of the sending buffer. -/
def sRest (c : Dev nD) : sProp 𝕄 := iprop(∃ f, (c : Thread nD τ).loc cc0_scratch2 ↦[Ring.restOf fun s : Fin 8 => (slot sM s).view.set]{fullShare} f)
/-- What the slots leave of the landing buffer. -/
def rRest (c : Dev nD) : sProp 𝕄 := iprop(∃ f, (c : Thread nD τ).loc cc0_scratch3 ↦[Ring.restOf fun s : Fin 8 => (slot rM s).view.set]{fullShare} f)
/-- What the row groups leave of the staged columns. -/
def xRest (c : Dev nD) : sProp 𝕄 := iprop(∃ f, (c : Thread nD τ).loc cc0_scratch0 ↦[Ring.restOf fun s : Fin 4 => (group xM s).view.set]{fullShare} f)
/-- What the copies leave of the device's columns. -/
def aRest (c : Dev nD) : sProp 𝕄 :=
  (c : Thread nD τ).loc main_arg0 ↦[Ring.restOf fun s : Fin 4 => (src aM s c).view.set]{fullShare} (m ((c : Thread nD τ).loc main_arg0))

theorem s_disj (a b : Fin 8) (h : a ≠ b) : Disjoint ((slot sM a).view.set) ((slot sM b).view.set) :=
  disjoint_of_tag (I := fun s : Fin 8 => (slot sM s).view.set) (fun i : S8x128x128.Idx => (i 0).val) (fun s => s.val) (fun _ _ => Fin.ext) sM_mem a b h
theorem r_disj (a b : Fin 8) (h : a ≠ b) : Disjoint ((slot rM a).view.set) ((slot rM b).view.set) :=
  disjoint_of_tag (I := fun s : Fin 8 => (slot rM s).view.set) (fun i : S8x128x128.Idx => (i 0).val) (fun s => s.val) (fun _ _ => Fin.ext) rM_mem a b h
theorem x_disj (a b : Fin 4) (h : a ≠ b) : Disjoint ((group xM a).view.set) ((group xM b).view.set) :=
  disjoint_of_tag (I := fun s : Fin 4 => (group xM s).view.set) (fun i : S4x256x1024.Idx => (i 0).val) (fun s => s.val) (fun _ _ => Fin.ext) xM_mem a b h
theorem a_disj (c : Dev nD) (a b : Fin 4) (h : a ≠ b) : Disjoint ((src aM a c).view.set) ((src aM b c).view.set) :=
  disjoint_of_tag (I := fun s : Fin 4 => (src aM s c).view.set) (fun i : S1024x8192.Idx => (i 0).val / 256) (fun s => s.val) (fun _ _ => Fin.ext) (src_mem c) a b h

theorem s_cut (c : Dev nD) : iprop(∃ f, holds (F := F) c cc0_scratch2 f) ⊢ iprop((bigSep Finset.univ fun s : Fin 8 => slotAny (F := F) sM c s) ∗ sRest (F := F) c) :=
  Ring.fam_split_ex (ℓ := (c : Thread nD τ).loc cc0_scratch2) (fun s : Fin 8 => (slot sM s).view.set) s_disj
theorem r_cut (c : Dev nD) : iprop(∃ f, holds (F := F) c cc0_scratch3 f) ⊢ iprop((bigSep Finset.univ fun s : Fin 8 => slotAny (F := F) rM c s) ∗ rRest (F := F) c) :=
  Ring.fam_split_ex (ℓ := (c : Thread nD τ).loc cc0_scratch3) (fun s : Fin 8 => (slot rM s).view.set) r_disj
theorem x_cut (c : Dev nD) : iprop(∃ f, holds (F := F) c cc0_scratch0 f) ⊢ iprop((bigSep Finset.univ fun s : Fin 4 => groupAny (F := F) c s) ∗ xRest (F := F) c) :=
  Ring.fam_split_ex (ℓ := (c : Thread nD τ).loc cc0_scratch0) (fun s : Fin 4 => (group xM s).view.set) x_disj
theorem s_join (c : Dev nD) (f₀ : Buf (Elt F) ((c : Thread nD τ).loc cc0_scratch2)) : iprop((bigSep Finset.univ fun s : Fin 8 => slotAny (F := F) sM c s) ∗ sRest (F := F) c) ⊢ iprop(∃ f, holds (F := F) c cc0_scratch2 f) :=
  Ring.fam_join (ℓ := (c : Thread nD τ).loc cc0_scratch2) (fun s : Fin 8 => (slot sM s).view.set) s_disj f₀
theorem r_join (c : Dev nD) (f₀ : Buf (Elt F) ((c : Thread nD τ).loc cc0_scratch3)) : iprop((bigSep Finset.univ fun s : Fin 8 => slotAny (F := F) rM c s) ∗ rRest (F := F) c) ⊢ iprop(∃ f, holds (F := F) c cc0_scratch3 f) :=
  Ring.fam_join (ℓ := (c : Thread nD τ).loc cc0_scratch3) (fun s : Fin 8 => (slot rM s).view.set) r_disj f₀
theorem x_join (c : Dev nD) (f₀ : Buf (Elt F) ((c : Thread nD τ).loc cc0_scratch0)) : iprop((bigSep Finset.univ fun s : Fin 4 => groupAny (F := F) c s) ∗ xRest (F := F) c) ⊢ iprop(∃ f, holds (F := F) c cc0_scratch0 f) :=
  Ring.fam_join (ℓ := (c : Thread nD τ).loc cc0_scratch0) (fun s : Fin 4 => (group xM s).view.set) x_disj f₀

/-- The device's columns at their launch contents are the four parts and the rest of them. -/
theorem a_eq (c : Dev nD) : holds c main_arg0 (m ((c : Thread nD τ).loc main_arg0)) = iprop((bigSep Finset.univ fun j : Fin 4 => srcPts m c j) ∗ aRest m c) := by
  have h := pointsTo_biUnion (Ix := Unit) (Name := ℕ) (U := UU) (Lvl := ℕ) (q := fullShare) (f := m ((c : Thread nD τ).loc main_arg0)) Finset.univ
    (fun s : Fin 4 => (src aM s c).view.set) (fun b _ b' _ h => a_disj c b b' h)
  exact BI.Entails.antisymm
    (Ring.fam_split (ℓ := (c : Thread nD τ).loc main_arg0) (fun s : Fin 4 => (src aM s c).view.set) (a_disj c) _)
    (by
      unfold srcPts aRest
      exact (Entails.of_eq (congrArg (fun P => iprop(P ∗ _)) h.symm)).trans (pointsTo_split_subset (Finset.subset_univ _)).2)

end Cert.KernelIdeal.Net

end
-- ==== Proof.Site.lean ====
/-
  THE BODY AS THE PIPELINE TAKES IT: the one staged window is the result's; the body starts from what the launch dealt the device and leaves
  every buffer whole and every counter at zero.
-/
module

public import proofs.«01_k».proof.Proof.Cut

@[expose] public section

noncomputable section

namespace Cert.KernelIdeal.Net

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The pipeline's data -/

/-- What a device has from the launch. -/
def start (c : Dev nD) : sProp 𝕄 :=
  iprop((∃ K, records m K ∗ linear (F := F) c) ∗ cred (tallyAt (barCell c) () 4)
    ∗ (bigSep Finset.univ fun s : Fin 8 => cred (tallyAt (recvCell c s) () N)) ∗ levAts L lv
    ∗ holds c main_arg0 (m ((c : Thread nD τ).loc main_arg0)))

/-- The kernel's own buffers, whole. -/
def scratch (c : Dev nD) : sProp 𝕄 :=
  iprop((∃ f, holds (F := F) c cc0_scratch0 f) ∗ (∃ f, holds (F := F) c cc0_scratch1 f) ∗ (∃ f, holds (F := F) c cc0_scratch2 f)
    ∗ ∃ f, holds (F := F) c cc0_scratch3 f)

/-- The kernel's own transfer counters at zero. -/
def zeros (c : Dev nD) : sProp 𝕄 :=
  iprop((bigSep Finset.univ fun j : Fin 4 => semVal (copyCell c j) 0)
    ∗ (bigSep Finset.univ fun s : Fin 8 => semVal (sendCell c s) 0) ∗ bigSep Finset.univ fun s : Fin 8 => semVal (recvCell c s) 0)

def Φ₀ (c : Dev nD) : sProp 𝕄 := iprop(start m c ∗ scratch (F := F) c)
def Φ₁ (c : Dev nD) : sProp 𝕄 :=
  iprop(holds c main_arg0 (m ((c : Thread nD τ).loc main_arg0)) ∗ semVal (barCell c) 0 ∗ zeros (F := F) c ∗ scratch (F := F) c)

def dats (_ : Fin 1) (c : Dev nD) : Dat τ (Elt F) Unit ℕ UU ℕ cfg0 c where
  A w := m ((cfg0.win w).arr.view.loc (c : Thread nD τ))
  after w _ := match w with
    | (0 : Fin 1) => outAt m c
  Φ t := match t with | ⟨0, _⟩ => Φ₀ m c | ⟨_ + 1, _⟩ => Φ₁ m c
  q _ := fullShare
  owed t := match t with | ⟨0, _⟩ => O₀ c | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## Into the body, and out of it -/

theorem copies_in (c : Dev nD) :
    iprop((bigSep Finset.univ fun j : Fin 4 => srcPts m c j) ∗ (bigSep Finset.univ fun j : Fin 4 => groupAny (F := F) c j)
        ∗ bigSep Finset.univ fun j : Fin 4 => copyGhost (F := F) c j)
      ⊢ bigSep Finset.univ fun j : Fin 4 => copyPre m c j := by
  unfold copyPre
  rw [bigSep_sep', bigSep_sep']

theorem copies_out (c : Dev nD) :
    (bigSep Finset.univ fun j : Fin 4 => copyPost m c j)
      ⊢ iprop((bigSep Finset.univ fun j : Fin 4 => srcPts m c j) ∗ (bigSep Finset.univ fun j : Fin 4 => groupAny (F := F) c j)
        ∗ bigSep Finset.univ fun j : Fin 4 => semVal (copyCell c j) 0) := by
  unfold copyPost
  rw [bigSep_sep', bigSep_sep']

theorem slots_in (c : Dev nD) :
    iprop((bigSep Finset.univ fun s : Fin 8 => slotAny (F := F) sM c s) ∗ (bigSep Finset.univ fun s : Fin 8 => slotGhost (F := F) c s)
        ∗ bigSep Finset.univ fun s : Fin 8 => cred (tallyAt (recvCell c s) () N))
      ⊢ bigSep Finset.univ fun s : Fin 8 => iprop(slotAny (F := F) sM c s ∗ slotIdle (F := F) c s) := by
  unfold slotIdle
  rw [bigSep_sep', bigSep_sep']

theorem slots_out (c : Dev nD) :
    (bigSep Finset.univ fun s : Fin 8 => slotDone (F := F) c s)
      ⊢ iprop((bigSep Finset.univ fun s : Fin 8 => slotAny (F := F) sM c s) ∗ (bigSep Finset.univ fun s : Fin 8 => slotAny (F := F) rM c s)
        ∗ (bigSep Finset.univ fun s : Fin 8 => semVal (sendCell c s) 0) ∗ bigSep Finset.univ fun s : Fin 8 => semVal (recvCell c s) 0) := by
  unfold slotDone
  rw [bigSep_sep', bigSep_sep', bigSep_sep']

/-- What the cuts leave over. -/
def rests (c : Dev nD) : sProp 𝕄 := iprop(aRest m c ∗ xRest (F := F) c ∗ sRest (F := F) c ∗ rRest (F := F) c)

theorem body_in (c : Dev nD) :
    iprop(linear (F := F) c ∗ cred (tallyAt (barCell c) () 4) ∗ (bigSep Finset.univ fun s : Fin 8 => cred (tallyAt (recvCell c s) () N))
        ∗ holds c main_arg0 (m ((c : Thread nD τ).loc main_arg0)) ∗ scratch (F := F) c ∗ owing (F := F) c (O₀ c) ∗ ∃ f, holds (F := F) c cc0_stg0_0 f)
      ⊢ iprop(runPre m c ∗ rests m c) := by
  unfold linear scratch runPre entryPre rests O₀
  iintro ⟨⟨Hb, Ht, Hc, Hs⟩, Hcb, Hcr, Ha, ⟨H0, H1, H2, H3⟩, HO, Hf⟩
  ihave Ha := (Entails.of_eq (a_eq m c)) $$ Ha
  icases Ha with ⟨Ha, Har⟩
  ihave H0 := (x_cut c) $$ H0
  icases H0 with ⟨H0, H0r⟩
  ihave H2 := (s_cut c) $$ H2
  icases H2 with ⟨H2, H2r⟩
  ihave H3 := (r_cut c) $$ H3
  icases H3 with ⟨H3, H3r⟩
  isplitr [Har H0r H2r H3r]
  · isplitl [HO Hcb Hb Ht H3]
    · isplitl [HO]; · iexact HO
      isplitl [Hcb]; · iexact Hcb
      isplitl [Hb]; · iexact Hb
      isplitl [Ht] <;> iassumption
    isplitl [Ha H0 Hc]
    · iapply (copies_in m c)
      isplitl [Ha]; · iexact Ha
      isplitl [H0] <;> iassumption
    isplitl [H2 Hs Hcr]
    · iapply (slots_in c)
      isplitl [H2]; · iexact H2
      isplitl [Hs] <;> iassumption
    isplitl [H1] <;> iassumption
  · isplitl [Har]; · iexact Har
    isplitl [H0r]; · iexact H0r
    isplitl [H2r] <;> iassumption

theorem body_out (c : Dev nD) :
    iprop(runPost m c ∗ rests m c) ⊢ iprop(Φ₁ m c ∗ owing (F := F) c 0 ∗ holds c cc0_stg0_0 (outAt m c)) := by
  unfold runPost rests Φ₁ zeros scratch
  iintro ⟨⟨HO, Hz, Hc, Hd, H1, Ho⟩, Har, H0r, H2r, H3r⟩
  ihave Hc := (copies_out m c) $$ Hc
  icases Hc with ⟨Ha, H0, Hzc⟩
  ihave Hd := (slots_out c) $$ Hd
  icases Hd with ⟨H2, H3, Hzs, Hzr⟩
  isplitr [HO Ho]
  · isplitl [Ha Har]
    · iapply (Entails.of_eq (a_eq m c).symm)
      isplitl [Ha] <;> iassumption
    isplitl [Hz]; · iexact Hz
    isplitl [Hzc Hzs Hzr]
    · isplitl [Hzc]; · iexact Hzc
      isplitl [Hzs] <;> iassumption
    isplitl [H0 H0r]
    · iapply (x_join c (m _))
      isplitl [H0] <;> iassumption
    isplitl [H1]; · iexact H1
    isplitl [H2 H2r]
    · iapply (s_join c (m _))
      isplitl [H2] <;> iassumption
    · iapply (r_join c (m _))
      isplitl [H3] <;> iassumption
  · isplitl [HO] <;> iassumption

def bodyPre (c : Dev nD) : sProp 𝕄 :=
  iprop(Φ₀ m c ∗ (dats m 0 c).owesAt () t0_0.castSucc
    ∗ ∃ d, stg c cc0_stg0_0 ((dats m 0 c).before (0 : Fin 1) t0_0 d))

def bodyPost (c : Dev nD) : sProp 𝕄 :=
  iprop(Φ₁ m c ∗ (dats m 0 c).owesAt () t0_0.succ ∗ stg c cc0_stg0_0 (outAt m c))

theorem sound_body (c : Dev nD) :
    bodyPre m c ⊢ runs c (cleanBody (F := F) aM oM xM gM sM rM cc0_scratch4 cc0_scratch5 cc0_scratch6) (fun _ => bodyPost m c) := by
  unfold bodyPre bodyPost Φ₀ start Dat.owesAt Pipeline.owesWithin
  rw [show (dats m 0 c).owed t0_0.castSucc = O₀ c from rfl, show (dats m 0 c).owed t0_0.succ = 0 from rfl]
  iintro ⟨⟨⟨⟨%K, #HR, Hl⟩, Hcb, Hcr, #Hlev, Ha⟩, Hs⟩, ⟨%W, %hW, HO⟩, ⟨%d, %f, %hf, Hf⟩⟩
  ihave H := (body_in m c) $$ [Hl Hcb Hcr Ha Hs HO Hf]
  · isplitl [Hl]; · iexact Hl
    isplitl [Hcb]; · iexact Hcb
    isplitl [Hcr]; · iexact Hcr
    isplitl [Ha]; · iexact Ha
    isplitl [Hs]; · iexact Hs
    isplitl [HO]
    · unfold owing
      iexists W; iexact HO
    · iexists f; iexact Hf
  icases H with ⟨Hpre, Hrest⟩
  iapply (run_body m K c _)
  isplitr; · iexact HR
  isplitr; · iexact Hlev
  isplitl [Hpre]; · iexact Hpre
  iintro Hpost
  ihave H := (body_out m c) $$ [Hpost Hrest]
  · isplitl [Hpost] <;> iassumption
  unfold owing
  icases H with ⟨H1, ⟨%W', HO⟩, Ho⟩
  isplitl [H1]; · iexact H1
  isplitl [HO]
  · iexists W'
    isplitr; · ipureintro; exact fun _ _ => Or.inl trivial
    iexact HO
  iexists _
  isplitr; · (ipureintro; rfl)
  iexact Ho

set_option maxRecDepth 4000 in
/-- The library's body obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ c none) Set.univ
    (cc0__body (Memref.whole main_arg0) (Memref.isWhole_whole _) (Memref.whole cc0_stg0_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6) (fun _ => bodyPost m c)
  rw [body_eq_clean]
  exact sound_body m c

end Cert.KernelIdeal.Net

end
-- ==== Proof.Launch.lean ====
/-
  THE LAUNCH: the cells' invariants are made for all devices at once, each duty's token goes to the device that pays it, and every
  execution of the program ends with the result computed on every device, its columns unchanged and all counters at zero.
-/
module

public import proofs.«01_k».proof.Proof.Site
public import Idealize.ShloMosaic.Lib.Pipeline.CollectiveSegs

@[expose] public section

noncomputable section

namespace Cert.KernelIdeal.Net

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The cells and the tokens -/

abbrev osem (i : DI) : SemLoc sig := .dma (dsem i)

theorem ownSemFacts : Pipeline.OwnSemFacts cfg0.spec osem := by decide +kernel

theorem csem_injective : Function.Injective csem := by decide +kernel

theorem kcell_injective : Function.Injective (kcell : Dev nD × CI → GSem nD τ sig) := fun a b h =>
  Prod.ext (congrArg (fun g : GSem nD τ sig => g.1.1) h) (csem_injective (congrArg Prod.snd h))

def ringCells : Finset (GSem nD τ sig) := Finset.univ.map ⟨kcell, kcell_injective⟩

/-- A device's duties, by name: its barrier's four, and one at each transfer cell. -/
abbrev TI : Type := Fin 4 ⊕ DI

abbrev tokAt (x : Dev nD × TI) : GSem nD τ sig × ℕ × Fin 4 :=
  match x.2 with
  | .inl k => (barCell x.1, 0, k)
  | .inr i => (kcell (x.1, .inr i), 0, 0)

theorem tokAt_injective : Function.Injective tokAt := by
  rintro ⟨c, k | i⟩ ⟨d, l | j⟩ h
  · exact Prod.ext (congrArg (fun x : GSem nD τ sig × ℕ × Fin 4 => x.1.1.1) h) (congrArg Sum.inl (congrArg (fun x : GSem nD τ sig × ℕ × Fin 4 => x.2.2) h))
  · exact absurd (congrArg (fun x : GSem nD τ sig × ℕ × Fin 4 => x.1.2) h) (fun h' => nomatch h')
  · exact absurd (congrArg (fun x : GSem nD τ sig × ℕ × Fin 4 => x.1.2) h) (fun h' => nomatch h')
  · have h1 : c = d := congrArg (fun x : GSem nD τ sig × ℕ × Fin 4 => x.1.1.1) h
    have h2 : csem (.inr i) = csem (.inr j) := congrArg (fun x : GSem nD τ sig × ℕ × Fin 4 => x.1.2) h
    exact Prod.ext h1 (congrArg Sum.inr (Sum.inr_injective (csem_injective h2)))

def ringToks : Finset (GSem nD τ sig × ℕ × Fin 4) := Finset.univ.map ⟨tokAt, tokAt_injective⟩

/-- What the resources start as. -/
def u₀ : UU := (initOf (Pipeline.cells cfgs cellOf_inj) (Pipeline.launchToks cfgs cellOf_inj), initOf ringCells ringToks)

/-- The tokens of device `c`'s own cells. -/
def toks (c : Dev nD) : sProp 𝕄 :=
  iprop((bigSep Finset.univ fun k : Fin 4 => dutyTok ER (barCell c) 0 k)
    ∗ (bigSep Finset.univ fun j : Fin 4 => dutyTok ER (copyCell c j) 0 0)
    ∗ (bigSep Finset.univ fun s : Fin 8 => dutyTok ER (sendCell c s) 0 0) ∗ bigSep Finset.univ fun s : Fin 8 => dutyTok ER (recvCell c s) 0 0)

/-- The tokens of the duties that device `c` pays. -/
def payToks (c : Dev nD) : sProp 𝕄 :=
  iprop((bigSep Finset.univ fun k : Fin 4 => dutyTok ER (barCell (pt k c)) 0 k)
    ∗ (bigSep Finset.univ fun j : Fin 4 => dutyTok ER (copyCell c j) 0 0)
    ∗ (bigSep Finset.univ fun s : Fin 8 => dutyTok ER (sendCell c s) 0 0)
    ∗ bigSep Finset.univ fun s : Fin 8 => dutyTok ER (recvCell (pt (rd s) c) s) 0 0)

/-- What the first resources deal device `c`. -/
def G (c : Dev nD) : sProp 𝕄 :=
  iprop((bigSep Finset.univ fun k : CI => roundState ER (ringRd m) (kcell (c, k)) 0)
    ∗ (bigSep Finset.univ fun k : CI => iprop(atPos ER (kcell (c, k)) 0 ∅ 0 ∗ reached ER (kcell (c, k)) 0)) ∗ toks (F := F) c)

/-- What the global step makes of it. -/
def G' (c : Dev nD) : sProp 𝕄 := iprop(∃ K, records m K ∗ linear (F := F) c)

/-- The members of a device's cells, by kind. -/
theorem by_kind (Φ : CI → sProp 𝕄) : bigSep Finset.univ Φ
    = iprop(Φ (.inl ()) ∗ (bigSep Finset.univ fun j : Fin 4 => Φ (.inr (.inl j)))
      ∗ (bigSep Finset.univ fun s : Fin 8 => Φ (.inr (.inr (.inl s)))) ∗ bigSep Finset.univ fun s : Fin 8 => Φ (.inr (.inr (.inr s)))) := by
  rw [BI.bigSep_univ_sum, BI.bigSep_univ_sum, BI.bigSep_univ_sum, bigSep_univ_eq_bigSepL [()] (by decide) (by decide)]
  rfl

theorem toks_by_kind (Φ : TI → sProp 𝕄) : bigSep Finset.univ Φ
    = iprop((bigSep Finset.univ fun k : Fin 4 => Φ (.inl k)) ∗ (bigSep Finset.univ fun j : Fin 4 => Φ (.inr (.inl j)))
      ∗ (bigSep Finset.univ fun s : Fin 8 => Φ (.inr (.inr (.inl s)))) ∗ bigSep Finset.univ fun s : Fin 8 => Φ (.inr (.inr (.inr s)))) := by
  rw [BI.bigSep_univ_sum, BI.bigSep_univ_sum, BI.bigSep_univ_sum]
  rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]
    exact bigSep_congr fun c _ => by unfold toks; rw [toks_by_kind]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The invariants -/

theorem ownSems0_eq (c : Dev nD) :
    (Pipeline.ownSems0 (Ix := Unit) (Name := ℕ) (U := UU) (Lvl := ℕ) (Val := Elt F) (τ := τ) osem c : sProp 𝕄) = zeros (F := F) c := by
  unfold Pipeline.ownSems0 zeros
  rw [BI.bigSep_univ_sum, BI.bigSep_univ_sum]
  rfl

theorem unscopedSems0_eq (c : Dev nD) : (unscopedSems0 c : sProp 𝕄) = semVal (barCell c) 0 := by
  unfold unscopedSems0; rw [bigSep_eq_bigSepL_of_eq [SemLoc.reg barSem] (by decide +kernel) (by decide +kernel)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, by_kind]
  unfold zeros
  iintro ⟨HD, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (ringRd m) κ (kcell (c, k))))
          ∗ (bigSep Finset.univ fun k : CI => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (ringRd m) (kcell (c, k)) 0)
      ⊢ (|={Set.univ}=> bigSep Finset.univ fun k : CI => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat] <;> iassumption

/-! ## The tokens dealt -/

/-- A partner's map, as a bijection. -/
def ptEquiv (k : Fin 4) : Dev nD ≃ Dev nD := ⟨pt k, pt k, pt_pt k, pt_pt k⟩

theorem around {S : Type} [Fintype S] (p : S → Fin 4) (Φ : Dev nD → S → sProp 𝕄) :
    (bigSep Finset.univ fun c : Dev nD => bigSep Finset.univ fun s : S => Φ c s)
      = bigSep Finset.univ fun c : Dev nD => bigSep Finset.univ fun s : S => Φ (pt (p s) c) s := by
  rw [BI.bigSep_univ_comm, BI.bigSep_univ_comm (fun (c : Dev nD) (s : S) => Φ (pt (p s) c) s)]
  exact bigSep_congr fun s _ => BI.bigSep_univ_equiv (ptEquiv (p s)) fun c => Φ c s

theorem toks_around : (bigSep Finset.univ fun c : Dev nD => toks (F := F) c) ⊢ bigSep Finset.univ fun c : Dev nD => payToks (F := F) c := by
  unfold toks payToks
  rw [bigSep_sep', bigSep_sep', bigSep_sep', bigSep_sep', bigSep_sep', bigSep_sep',
    around (fun k => k) (fun (c : Dev nD) (k : Fin 4) => (dutyTok ER (barCell c) 0 k : sProp 𝕄)),
    around rd (fun (c : Dev nD) (s : Fin 8) => (dutyTok ER (recvCell c s) 0 0 : sProp 𝕄))]

theorem linear_intro (c : Dev nD) :
    iprop((bigSep Finset.univ fun k : CI => atPos ER (kcell (c, k)) 0 ∅ 0) ∗ payToks (F := F) c) ⊢ linear (F := F) c := by
  unfold linear payToks copyGhost slotGhost
  rw [by_kind, bigSep_sep', bigSep_sep', bigSep_sep', bigSep_sep']
  iintro ⟨⟨HB, HC, HS, HR⟩, Htb, Htc, Hts, Htr⟩
  isplitl [HB]; · iexact HB
  isplitl [Htb]; · iexact Htb
  isplitl [HC Htc]
  · isplitl [HC] <;> iassumption
  isplitl [HS]; · iexact HS
  isplitl [HR]; · iexact HR
  isplitl [Hts] <;> iassumption

/-- What is for good goes to every member. -/
theorem to_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CI → ℕ) (c : Dev nD) : iprop(records m K ∗ linear (F := F) c) ⊢ G' m c := by
  unfold G'
  iintro H
  iexists K
  iexact H

theorem regroup :
    (bigSep Finset.univ fun c : Dev nD => iprop((bigSep Finset.univ fun k : CI => iprop(∃ κ : ℕ, cellInv ER (ringRd m) κ (kcell (c, k))))
          ∗ (bigSep Finset.univ fun k : CI => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × CI => iprop(∃ κ : ℕ, cellInv ER (ringRd m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (ringRd m) κ (kcell ck) : sProp 𝕄))) $$ HI
  icases HK with ⟨%K, #HI⟩
  ihave Htk := (toks_around (F := F)) $$ Htok
  iapply (to_each (R := records m K) fun c _ => ghost_intro m K c)
  isplitr
  · unfold records; isplitl; · iexact HI
    iexact HR
  · iapply ((Entails.of_eq (bigSep_sep' Finset.univ (fun c : Dev nD => bigSep Finset.univ fun k : CI => (atPos ER (kcell (c, k)) 0 ∅ 0 : sProp 𝕄)) payToks).symm).trans
      (bigSep_mono fun c _ => linear_intro c))
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

theorem rem_cred (s : Fin 8) (n : ℕ) (h : s.val + n = 7) (c : Dev nD) :
    (Pipeline.launchCred (rem (n + 1)) c : sProp 𝕄) ⊢ iprop(cred (tallyAt (recvCell c s) () N) ∗ Pipeline.launchCred (rem n) c) := by
  rw [show rem (n + 1) = fun d => rem n d + tallyAt (recvCell (pt (rd s) d) s) () N from funext fun d => rem_succ s n h d,
    Pipeline.launchCred_add (rem n) (fun d => tallyAt (recvCell (pt (rd s) d) s) () N) c]
  iintro ⟨H, Hs⟩
  ihave Hs := (Pipeline.launchCred_tallyAt (.dma (recvS s)) (pt (rd s)) (pt (rd s)) (pt_pt _) (pt_pt _) () N c) $$ Hs
  isplitl [Hs] <;> iassumption

theorem remB_cred (k : Fin 4) (n : ℕ) (h : k.val + n = 3) (c : Dev nD) :
    (Pipeline.launchCred (remB (n + 1)) c : sProp 𝕄) ⊢ iprop(cred (tallyAt (barCell c) () 1) ∗ Pipeline.launchCred (remB n) c) := by
  rw [show remB (n + 1) = fun d => remB n d + tallyAt (barCell (pt k d)) () 1 from funext fun d => remB_succ k n h d,
    Pipeline.launchCred_add (remB n) (fun d => tallyAt (barCell (pt k d)) () 1) c]
  iintro ⟨H, Hs⟩
  ihave Hs := (Pipeline.launchCred_tallyAt (.reg barSem) (pt k) (pt k) (pt_pt _) (pt_pt _) () 1 c) $$ Hs
  isplitl [Hs] <;> iassumption

theorem bar_add (c : Dev nD) (n : ℕ) :
    iprop(cred (tallyAt (barCell c) () n) ∗ cred (tallyAt (barCell c) () 1)) ⊢ (cred (tallyAt (barCell c) () (n + 1)) : sProp 𝕄) := by
  rw [← tallyAt_add]
  exact (cred_add _ _).2

theorem creds (c : Dev nD) :
    (Pipeline.launchCred O₀ c : sProp 𝕄)
      ⊢ iprop(cred (tallyAt (barCell c) () 4) ∗ bigSep Finset.univ fun s : Fin 8 => cred (tallyAt (recvCell c s) () N)) := by
  rw [eight, show (O₀ : Dev nD → _) = remB (3 + 1) from rfl]
  iintro H
  ihave H := (remB_cred 0 3 rfl c) $$ H
  icases H with ⟨Hb, H⟩
  ihave H := (remB_cred 1 2 rfl c) $$ H
  icases H with ⟨Hb1, H⟩
  ihave Hb := (bar_add c 1) $$ [Hb Hb1]
  · isplitl [Hb] <;> iassumption
  ihave H := (remB_cred 2 1 rfl c) $$ H
  icases H with ⟨Hb1, H⟩
  ihave Hb := (bar_add c 2) $$ [Hb Hb1]
  · isplitl [Hb] <;> iassumption
  ihave H := (remB_cred 3 0 rfl c) $$ H
  icases H with ⟨Hb1, H⟩
  ihave Hb := (bar_add c 3) $$ [Hb Hb1]
  · isplitl [Hb] <;> iassumption
  isplitl [Hb]; · iexact Hb
  ihave H := (Entails.of_eq (congrArg (fun O => (Pipeline.launchCred O c : sProp 𝕄)) (show remB 0 = rem (7 + 1) from rfl))) $$ H
  ihave H := (rem_cred 0 7 rfl c) $$ H
  icases H with ⟨H0, H⟩
  isplitl [H0]; · iexact H0
  ihave H := (rem_cred 1 6 rfl c) $$ H
  icases H with ⟨H0, H⟩
  isplitl [H0]; · iexact H0
  ihave H := (rem_cred 2 5 rfl c) $$ H
  icases H with ⟨H0, H⟩
  isplitl [H0]; · iexact H0
  ihave H := (rem_cred 3 4 rfl c) $$ H
  icases H with ⟨H0, H⟩
  isplitl [H0]; · iexact H0
  ihave H := (rem_cred 4 3 rfl c) $$ H
  icases H with ⟨H0, H⟩
  isplitl [H0]; · iexact H0
  ihave H := (rem_cred 5 2 rfl c) $$ H
  icases H with ⟨H0, H⟩
  isplitl [H0]; · iexact H0
  ihave H := (rem_cred 6 1 rfl c) $$ H
  icases H with ⟨H0, H⟩
  isplitl [H0]; · iexact H0
  ihave H := (rem_cred 7 0 rfl c) $$ H
  icases H with ⟨H0, -⟩
  iexact H0

/-! ## The launch theorem's conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Ha, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    isplitl [Hlev] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs] <;> iassumption

/-- What a device has at the end, besides the result. -/
def leave (c : Dev nD) : sProp 𝕄 := iprop(unscopedSems0 c ∗ holds c main_arg0 (m ((c : Thread nD τ).loc main_arg0)))

theorem phi1_exit (c : Dev nD) :
    (dats m 0 c).Φ (Fin.last cfg0.N) ⊢ iprop(leave m c ∗ Pipeline.ownSems0 osem c ∗ Pipeline.scopedRest cfg0.spec c) := by
  rw [show (dats m 0 c).Φ (Fin.last cfg0.N) = Φ₁ m c from rfl, scopedRest0_eq, ownSems0_eq]
  unfold Φ₁ leave scratch
  rw [unscopedSems0_eq]
  iintro ⟨Ha, HB, HD, Hr⟩
  isplitl [Ha HB]
  · isplitl [HB] <;> iassumption
  isplitl [HD] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by fin_cases w; fin_cases s; decide) _ (by
      rcases t with ⟨_ | _, ht⟩
      · exact Or.inl rfl
      · exact Or.inr rfl)

theorem share_eq (c : Dev nD) (w : Fin cfg0.W) : (dats m 0 c).share w = fullShare := by unfold Dat.share; split <;> rfl

/-- What is read off a device's memory at the end. -/
def Left (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)

theorem leave_read (c : Dev nD) (s' : Phys nD τ sig (Elt F)) :
    iprop(leave m c ∗ emp ∗ SI s') ⊢ (|={Set.univ}=> iprop(⌜Left m c s'.mem⌝ ∗ SI s') : sProp 𝕄) := by
  unfold leave
  iintro ⟨⟨Hu, Ha⟩, -, HSI⟩
  icombine HSI Ha gives %ha
  imod (Pipeline.unscopedSems0_read (X := unscopedSems0 c) (c := c) fupd_intro s') $$ [Hu HSI] with ⟨%hs, HSI⟩
  · isplitl [Hu] <;> iassumption
  imodintro
  isplitr; · ipureintro; exact ⟨hs, Buf.eq_of_forall_mem_univ ha⟩
  iexact HSI

/-! ## The run -/

def finalA (c : Dev nD) (w : Fin cfg0.W) : Buf (Elt F) ((cfg0.win w).arr.view.loc (c : Thread nD τ)) := (dats m 0 c).arrAt w cfg0.N

set_option maxRecDepth 8000 in
/-- For any float values, from any memory with all counters at zero: every fair execution of the sixteen devices ends, with the result's
    array as the body left it, the device's columns unchanged, and all counters at zero. -/
theorem run_main : θ_run defs (onTc (τ := τ) (main (F := F))) ⟨m, fun _ => 0, ρ⟩
    (fun r => (∀ c : Dev nD, (∀ w : Fin cfg0.W, r.2.mem ((cfg0.win w).arr.view.loc (c : Thread nD τ)) = finalA m c w)
      ∧ r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c)) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := leave m) (Z := fun _ => iprop(emp))
    (hX := start_intro m ρ) (hin := phi0_intro m) (hout := phi1_exit m)
    (QY := Left m) (hY := leave_read m)
    (hQ := fun _ h hs => ⟨fun c => ⟨(h c).1, (h c).2.2.2⟩, sem_eq_zero hs fun c => (h c).2.2.1⟩)

end Cert.KernelIdeal.Net

end
-- ==== Proof.Run.lean ====
/-
  WHAT A RUN LEAVES, in the words of the claims: on every device the result is the body's, its columns are unchanged, all counters are zero.
-/
module

public import proofs.«01_k».proof.Proof.Launch

@[expose] public section

noncomputable section

namespace Cert.KernelIdeal.Net

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- The result's window starts where the array does. -/
theorem win_off (a : Fin 2) : win0_0.kind.off (win0_0.index t0_0 a) (win0_0.size a) = 0 := by
  revert a; decide +kernel

theorem flushed_eq (c : Dev nD) (t : Fin cfg0.N) :
    (dats m 0 c).flushed (0 : Fin 1) t = ((cfg0.win 0).blk t).view.read (Elt F) (outAt m c) := by
  obtain rfl := fin_N0 t
  refine funext fun y => congrArg (outAt m c) (funext fun a => Fin.ext ?_)
  show (y a).val = win0_0.kind.off (win0_0.index t0_0 a) (win0_0.size a) + 1 * (y a).val
  rw [win_off, Nat.one_mul, Nat.zero_add]

theorem cover (i : S1024x32.Idx) : ∃ t : Fin cfg0.N, (cfg0.win 0).flush t = true ∧ i ∈ ((cfg0.win 0).blk t).view.set := by
  refine ⟨t0_0, by decide, ?_⟩
  show i ∈ ((View.whole main_v1).slice (win0_0.rect t0_0)).set
  rw [View.set_slice_whole]
  refine Rect.mem_set_unit.mpr fun a => ?_
  rw [win_off]
  have h := (i a).isLt
  match a with
  | ⟨0, _⟩ => exact ⟨Nat.zero_le _, h⟩
  | ⟨1, _⟩ => exact ⟨Nat.zero_le _, h⟩

theorem final_out (c : Dev nD) : finalA m c 0 = outAt m c :=
  (dats m 0 c).arrAt_eq_of_cover (0 : Fin 1) (outAt m c) (fun t _ => flushed_eq m c t) cover

/-- Every run, result and all. -/
theorem run_value : θ_run defs (onTc (τ := τ) (main (F := F))) ⟨m, fun _ => 0, ρ⟩
    (fun r => ∀ c : Dev nD, r.2.mem ((c.tc : Thread nD τ).loc main_v1) = outAt m c
      ∧ r.2.mem ((c.tc : Thread nD τ).loc main_arg0) = m ((c.tc : Thread nD τ).loc main_arg0)) :=
  (θ_run defs _ _).mono (fun _ h c => ⟨((h.1 c).1 0).trans (final_out m c), (h.1 c).2⟩) (run_main m ρ)

/-- Every run ends quietly, the device's columns unchanged. -/
theorem run_frame : θ_run defs (onTc (τ := τ) (main (F := F))) ⟨m, fun _ => 0, ρ⟩
    (fun r => (∀ c : Dev nD, r.2.mem ((c.tc : Thread nD τ).loc main_arg0) = m ((c.tc : Thread nD τ).loc main_arg0)) ∧ r.2.sem = fun _ => 0) :=
  (θ_run defs _ _).mono (fun _ h => ⟨fun c => (h.1 c).2, h.2⟩) (run_main m ρ)

end Cert.KernelIdeal.Net

end
-- ==== Proof.Frames.lean ====
/-
  THE FRAMES: the program as printed and as read at exact values has one text, so one run serves both; the reference has no counter at all.
-/
module

public import proofs.«01_k».proof.Defs
public import proofs.«01_k».proof.Proof.Run
public import proofs.«01_k».proof.Proof.Gen.Kernel
public import proofs.«01_k».proof.Proof.Gen.ReferenceIdeal.Run
public import proofs.«01_k».proof.Proof.Gen.Pre_top_distinct_KernelIdeal
public import proofs.«01_k».proof.Proof.Gen.Pre_top_distinct_ReferenceIdeal
public import Idealize.ShloMosaic.Lib.Quiescent

@[expose] public section

noncomputable section

namespace Cert.KernelIdeal.Net

open Idealize.ShloMosaic Idealize.ShloMosaic.TcCoe Idealize.SL.Sem

/-- The two programs' body tables are one text. -/
theorem defs_eq : Cert.Kernel.defs (F := Bits) = Cert.KernelIdeal.defs (F := Bits) := by sl_kernel_rfl

theorem frame_kernel : Cert.quiescent_Kernel := fun m ρ _ => by
  have h := run_frame (F := Bits) m ρ
  refine Eq.mpr (congrArg (fun d => θ_run d _ _ _) defs_eq) ?_
  exact h

theorem frame_ideal : Cert.quiescent_KernelIdeal := fun m ρ _ => run_frame (F := Ideal) m ρ

theorem frame_ideal_pre : Cert.quiescent_KernelIdeal_pre_top_distinct_KernelIdeal := fun m ρ _ => run_frame (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_top_distinct_ReferenceIdeal := fun m ρ _ => frame_reference m ρ trivial

end Cert.KernelIdeal.Net

end
-- ==== Proof.MergeNet.lean ====
/-
  THE MERGE OF TWO DESCENDING ROWS OF 32, over any linear order: the second row reversed by five swaps, the greater of each pair kept, and
  five compare-and-exchange steps. It is the descending merge network, so it leaves the 32 greatest of the two rows in order.
-/
module

public import Idealize.ShloMosaic.Lib.SortNet.Lists

@[expose] public section

namespace Cert.KernelIdeal.Net

open Idealize.ShloMosaic.SortNet

variable {α : Type*}

/-- Lane `l + a` around the 32 lanes. -/
def turn (a : Nat) (l : Fin 32) : Fin 32 := ⟨(l.val + a) % 32, Nat.mod_lt _ (by decide)⟩

/-- Is the lane in the first half of its run of `2 d` lanes? -/
def low (d : Nat) (l : Fin 32) : Bool := decide (l.val % (2 * d) < d)

/-- Each lane takes its partner's entry, `d` lanes away. -/
def laneSwap (d : Nat) (w : Fin 32 → α) : Fin 32 → α := fun l => if low d l then w (turn d l) else w (turn (32 - d) l)

/-- The row reversed, by swaps. -/
def laneReverse (w : Fin 32 → α) : Fin 32 → α := laneSwap 1 (laneSwap 2 (laneSwap 4 (laneSwap 8 (laneSwap 16 w))))

theorem laneReverse_eq (w : Fin 32 → α) (l : Fin 32) : laneReverse w l = w (Fin.rev l) := by
  have h : laneReverse (fun k : Fin 32 => k) l = Fin.rev l := by revert l; decide +kernel
  have e : laneReverse w l = w (laneReverse (fun k : Fin 32 => k) l) := by
    unfold laneReverse laneSwap
    simp only [apply_ite w]
  rw [e, h]

variable [LinearOrder α]

/-- Each lane against its partner: the lower keeps the greater, the upper the lesser. -/
def laneStep (d : Nat) (w : Fin 32 → α) : Fin 32 → α := fun l =>
  if low d l then max (w l) (w (turn d l)) else min (w l) (w (turn (32 - d) l))

/-- The five steps. -/
def laneSort (w : Fin 32 → α) : Fin 32 → α := laneStep 1 (laneStep 2 (laneStep 4 (laneStep 8 (laneStep 16 w))))

theorem low_iff (s : Fin 5) (l : Fin 32) : low (2 ^ s.val) l = decide (l.val &&& 2 ^ s.val = 0) := by revert s l; decide +kernel

theorem turn_low (s : Fin 5) (l : Fin 32) (h : low (2 ^ s.val) l = true) : turn (2 ^ s.val) l = partner 5 s.val l := by
  revert s l; decide +kernel

theorem turn_high (s : Fin 5) (l : Fin 32) (h : low (2 ^ s.val) l = false) : turn (32 - 2 ^ s.val) l = partner 5 s.val l := by
  revert s l; decide +kernel

/-- A step is a stage of the merge network. -/
theorem laneStep_eq (s : Fin 5) (w : Fin 32 → α) : laneStep (2 ^ s.val) w = Network.apply (stage 5 s.val fun _ => true) w := by
  funext l
  unfold laneStep
  cases hl : low (2 ^ s.val) l with
  | true =>
    rw [if_pos rfl, turn_low s l hl]
    have h0 : l.val &&& 2 ^ s.val = 0 := of_decide_eq_true ((low_iff s l).symm.trans hl)
    exact ((apply_stage s.isLt (fun _ => true) w l h0).1.trans (if_pos rfl)).symm
  | false =>
    rw [if_neg Bool.false_ne_true, turn_high s l hl]
    have h1 : l.val &&& 2 ^ s.val ≠ 0 := of_decide_eq_false ((low_iff s l).symm.trans hl)
    have h0 := partner_and_of_set s.isLt l h1
    have h := (apply_stage s.isLt (fun _ => true) w (partner 5 s.val l) h0).2
    rw [partner_partner s.isLt l, if_pos rfl, min_comm] at h
    exact h.symm

theorem laneSort_eq (w : Fin 32 → α) : laneSort w = Network.apply (mergeDescNet 5) w := by
  have e : mergeDescNet 5 = stage 5 4 (fun _ => true) ++ (stage 5 3 (fun _ => true) ++ (stage 5 2 (fun _ => true)
      ++ (stage 5 1 (fun _ => true) ++ (stage 5 0 (fun _ => true) ++ [])))) := rfl
  rw [e, Network.apply_append, Network.apply_append, Network.apply_append, Network.apply_append, List.append_nil]
  have e16 : ∀ w : Fin 32 → α, laneStep 16 w = _ := laneStep_eq 4
  have e8 : ∀ w : Fin 32 → α, laneStep 8 w = _ := laneStep_eq 3
  have e4 : ∀ w : Fin 32 → α, laneStep 4 w = _ := laneStep_eq 2
  have e2 : ∀ w : Fin 32 → α, laneStep 2 w = _ := laneStep_eq 1
  have e1 : ∀ w : Fin 32 → α, laneStep 1 w = _ := laneStep_eq 0
  unfold laneSort
  rw [e16, e8, e4, e2, e1]
  rfl

/-- THE MERGE: the 32 greatest of two descending rows, descending. -/
theorem laneMerge_eq (R D : Fin 32 → α) (hR : Antitone R) (hD : Antitone D) :
    Antitone (laneSort fun l => max (R l) (laneReverse D l)) ∧
      List.ofFn (laneSort fun l => max (R l) (laneReverse D l)) = topList 32 (List.ofFn R ++ List.ofFn D) := by
  have h := topOfTwo_eq_topList 5 R D hR hD
  have e : (fun l => max (R l) (laneReverse D l)) = fun l => max (R l) (D (Fin.rev l)) := funext fun l => by rw [laneReverse_eq]
  rw [laneSort_eq, e]
  exact h

end Cert.KernelIdeal.Net

end
-- ==== Proof.Segments.lean ====
/-
  THE MERGE, READ LANE BY LANE: on each row, each 32-lane segment of a merged block is the 32 greatest of the two rows' segments, descending.
-/
module

public import proofs.«01_k».proof.Proof.Values
public import proofs.«01_k».proof.Proof.MergeNet
public import Idealize.ShloMosaic.Lib.Pointwise

@[expose] public section

noncomputable section

namespace Cert.KernelIdeal.Net

open Idealize.ShloMosaic Idealize.ShloMosaic.SortNet Facts₀

section AnyValues

variable {F : FTy → Type} [FloatOps F]

/-- Lane `l` of segment `j`. -/
def lane (j : Fin 4) (l : Fin 32) : Fin 128 := ⟨32 * j.val + l.val, by omega⟩

/-- The extent of a piece along the lanes. -/
theorem vec_cast {n : Nat} (h : S128x128.rank = (lanes n).rank) : (![128, n] : Fin 2 → Nat) (Fin.cast h 1) = n := rfl

/-- The lane coordinate. -/
theorem lane_coord (r : Fin 128) (j : Fin 4) (l : Fin 32) : ((ix2 r (lane j l) : S128x128.Idx) 1).val = 32 * j.val + l.val := rfl

/-- A piece of segment `j` from lane `o` on, read where the block says. -/
theorem piece_at {n o : Nat} (j : Fin 4) (v : FVec F S128x128 .f32) (h : S128x32.Slices ![0, o] (lanes n)) (i : (lanes n).Idx) (r q : Fin 128)
    (h0 : (i 0).val = r.val) (h1 : 32 * j.val + (o + (i 1).val) = q.val) :
    extractStridedSlice (lanes n) ![0, o] (seg j v) h i = v (ix2 r q) := by
  refine congrArg v (funext fun b => ?_)
  match b with
  | ⟨0, _⟩ => exact Fin.ext (by show 0 + (0 + (i 0).val) = r.val; omega)
  | ⟨1, _⟩ => exact Fin.ext h1

/-- A rotated block at a lane. -/
theorem rot_at (a : Fin 32) (v : FVec F S128x128 .f32) (r : Fin 128) (j : Fin 4) (l : Fin 32) :
    rot a v (ix2 r (lane j l)) = v (ix2 r (lane j (turn a.val l))) := by
  refine (concatenate_apply S128x128 1
    [pieceHi a 0 v, pieceLo a 0 v, pieceHi a 1 v, pieceLo a 1 v, pieceHi a 2 v, pieceLo a 2 v, pieceHi a 3 v, pieceLo a 3 v] (concatenates_roll a) _).trans ?_
  have ht : (lane j (turn a.val l)).val = 32 * j.val + (l.val + a.val) % 32 := rfl
  have hj : j.val < 4 := j.isLt
  simp only [pieceHi, pieceLo, concatenateAt_cons, concatenateAt_singleton, vec_cast, lane_coord]
  repeat' split
  all_goals
    refine piece_at _ v _ _ _ _ rfl ?_
    rw [ht]
    simp only [Shape.Idx.norm_def, if_true, Fin.coe_ofNat_eq_mod]
    omega

/-- Which lanes are in the first half of their run. -/
theorem lowLane_at (s : Fin 5) (r : Fin 128) (j : Fin 4) (l : Fin 32) :
    lowLane (BitVec.ofNat 32 (2 ^ s.val)) (BitVec.ofNat 32 (2 * 2 ^ s.val)) (ix2 r (lane j l)) = BitVec.ofBool (low (2 ^ s.val) l) := by
  have h : lowLane (BitVec.ofNat 32 (2 ^ s.val)) (BitVec.ofNat 32 (2 * 2 ^ s.val)) (ix2 r (lane j l))
     = lowLane (BitVec.ofNat 32 (2 ^ s.val)) (BitVec.ofNat 32 (2 * 2 ^ s.val)) (ix2 0 (lane j l)) := rfl
  rw [h]
  clear h r
  revert s j l
  decide +kernel

/-- A row's segment. -/
def segRow (v : FVec F S128x128 .f32) (r : Fin 128) (j : Fin 4) : Fin 32 → F .f32 := fun l => v (ix2 r (lane j l))

theorem swapStep_at (s : Fin 5) (a b : Fin 32) (ha : a.val = 2 ^ s.val) (hb : b.val = 32 - 2 ^ s.val) (v : FVec F S128x128 .f32)
    (r : Fin 128) (j : Fin 4) :
    segRow (swapStep (BitVec.ofNat 32 (2 ^ s.val)) (BitVec.ofNat 32 (2 * 2 ^ s.val)) a b v) r j = laneSwap (2 ^ s.val) (segRow v r j) := by
  funext l
  show Scalar.select (lowLane _ _ (ix2 r (lane j l))) (rot a v (ix2 r (lane j l))) (rot b v (ix2 r (lane j l))) = _
  rw [lowLane_at, rot_at, rot_at, ha, hb]
  unfold laneSwap
  cases low (2 ^ s.val) l <;> rfl

theorem reverseSegs_at (v : FVec F S128x128 .f32) (r : Fin 128) (j : Fin 4) : segRow (reverseSegs v) r j = laneReverse (segRow v r j) := by
  unfold reverseSegs laneReverse
  refine (swapStep_at 0 1 31 rfl rfl _ r j).trans (congrArg _ ?_)
  refine (swapStep_at 1 2 30 rfl rfl _ r j).trans (congrArg _ ?_)
  refine (swapStep_at 2 4 28 rfl rfl _ r j).trans (congrArg _ ?_)
  refine (swapStep_at 3 8 24 rfl rfl _ r j).trans (congrArg _ ?_)
  exact swapStep_at 4 16 16 rfl rfl _ r j

end AnyValues

/-! ## On the extended reals -/

theorem netStep_at (s : Fin 5) (a b : Fin 32) (ha : a.val = 2 ^ s.val) (hb : b.val = 32 - 2 ^ s.val) (v : FVec Ideal S128x128 .f32)
    (r : Fin 128) (j : Fin 4) :
    segRow (netStep (BitVec.ofNat 32 (2 ^ s.val)) (BitVec.ofNat 32 (2 * 2 ^ s.val)) a b v) r j
      = laneStep (α := EReal) (2 ^ s.val) (segRow v r j) := by
  funext l
  show Scalar.select (lowLane _ _ (ix2 r (lane j l))) (max (α := EReal) (v (ix2 r (lane j l))) (rot a v (ix2 r (lane j l))))
    (min (α := EReal) (v (ix2 r (lane j l))) (rot b v (ix2 r (lane j l)))) = _
  rw [lowLane_at, rot_at, rot_at, ha, hb]
  unfold laneStep
  cases low (2 ^ s.val) l <;> rfl

theorem sortSegs_at (v : FVec Ideal S128x128 .f32) (r : Fin 128) (j : Fin 4) :
    segRow (sortSegs v) r j = laneSort (α := EReal) (segRow v r j) := by
  unfold sortSegs laneSort
  refine (netStep_at 0 1 31 rfl rfl _ r j).trans (congrArg _ ?_)
  refine (netStep_at 1 2 30 rfl rfl _ r j).trans (congrArg _ ?_)
  refine (netStep_at 2 4 28 rfl rfl _ r j).trans (congrArg _ ?_)
  refine (netStep_at 3 8 24 rfl rfl _ r j).trans (congrArg _ ?_)
  exact netStep_at 4 16 16 rfl rfl _ r j

/-- Each segment of a merged block: the 32 greatest of the two segments, descending. -/
theorem merge_at (a b : FVec Ideal S128x128 .f32) (r : Fin 128) (j : Fin 4) (ha : Antitone (α := Fin 32) (β := EReal) (segRow a r j))
    (hb : Antitone (α := Fin 32) (β := EReal) (segRow b r j)) :
    Antitone (α := Fin 32) (β := EReal) (segRow (merge a b) r j) ∧
      List.ofFn (α := EReal) (segRow (merge a b) r j) = topList 32 (List.ofFn (α := EReal) (segRow a r j) ++ List.ofFn (α := EReal) (segRow b r j)) := by
  have e : segRow (merge a b) r j = laneSort (α := EReal) fun l => max (α := EReal) (segRow a r j l) (laneReverse (segRow b r j) l) := by
    unfold merge
    rw [sortSegs_at]
    refine congrArg _ (funext fun l => ?_)
    show max (α := EReal) (segRow a r j l) (segRow (reverseSegs b) r j l) = _
    rw [reverseSegs_at]
  rw [e]
  exact laneMerge_eq (α := EReal) _ _ ha hb

end Cert.KernelIdeal.Net

end
-- ==== Proof.Rounds.lean ====
/-
  REPEATED MAXIMUM, over any linear order. A round takes the maximum of `n` entries and masks every entry equal to it with `neg`. When the
  `K` greatest entries strictly descend and none is below `neg`, the `K` rounds find them in order.
-/
module

public import Idealize.ShloMosaic.Lib.SortNet.TopList
public import Mathlib.Data.List.OfFn

@[expose] public section

namespace Cert.KernelIdeal.Net

open Idealize.ShloMosaic.SortNet

variable {α : Type*} [LinearOrder α] {n : Nat}

/-- One round: what equals the maximum `M w` is masked. -/
def strike (neg : α) (M : (Fin n → α) → α) (w : Fin n → α) : Fin n → α := fun j => if w j = M w then neg else w j

/-- The entries after `k` rounds. -/
def struck (neg : α) (M : (Fin n → α) → α) (v : Fin n → α) : Nat → Fin n → α
  | 0 => v
  | k + 1 => strike neg M (struck neg M v k)

variable {neg : α} {M : (Fin n → α) → α} {v : Fin n → α} {K : Nat} {t : Fin K → α}

/-- While the entries struck so far are the first `k` of `t`, the maximum is the next one. -/
theorem max_struck (hM : ∀ w, (∀ j, w j ≤ M w) ∧ ∃ j, w j = M w) (hmem : ∀ k, ∃ j, v j = t k) (hlt : ∀ i k : Fin K, i < k → t k < t i)
    (hrest : ∀ j, (∃ k, v j = t k) ∨ ∀ k, v j ≤ t k) (hneg : ∀ k, neg ≤ t k) (k : Fin K) {w : Fin n → α}
    (hw : ∀ j, w j = if ∃ i : Fin K, i < k ∧ v j = t i then neg else v j) : M w = t k := by
  have hanti : ∀ i k : Fin K, i ≤ k → t k ≤ t i := fun i k h => by
    rcases eq_or_lt_of_le h with rfl | h
    · exact le_refl _
    · exact le_of_lt (hlt i k h)
  apply le_antisymm
  · obtain ⟨j, hj⟩ := (hM w).2
    rw [← hj, hw j]
    split
    · exact hneg k
    · rename_i hno
      rcases hrest j with ⟨i, hi⟩ | h
      · rw [hi]
        exact hanti k i (not_lt.mp fun hik => hno ⟨i, hik, hi⟩)
      · exact h k
  · obtain ⟨j, hj⟩ := hmem k
    have h := (hM w).1 j
    rw [hw j, if_neg] at h
    · rwa [hj] at h
    · rintro ⟨i, hik, hi⟩
      exact absurd (hi.symm.trans hj) (ne_of_gt (hlt i k hik))

/-- After `k` rounds the first `k` of `t` are masked. -/
theorem struck_eq (hM : ∀ w, (∀ j, w j ≤ M w) ∧ ∃ j, w j = M w) (hmem : ∀ k, ∃ j, v j = t k) (hlt : ∀ i k : Fin K, i < k → t k < t i)
    (hrest : ∀ j, (∃ k, v j = t k) ∨ ∀ k, v j ≤ t k) (hneg : ∀ k, neg ≤ t k) :
    ∀ (k : Nat), k ≤ K → ∀ j, struck neg M v k j = if ∃ i : Fin K, i.val < k ∧ v j = t i then neg else v j
  | 0, _, j => by
    rw [if_neg]
    · rfl
    · rintro ⟨i, hi, -⟩
      exact absurd hi (Nat.not_lt_zero _)
  | k + 1, hk, j => by
    have ih := struck_eq hM hmem hlt hrest hneg k (Nat.le_of_succ_le hk)
    have hmax := max_struck hM hmem hlt hrest hneg ⟨k, hk⟩ ih
    show (if struck neg M v k j = M (struck neg M v k) then neg else struck neg M v k j) = _
    rw [hmax, ih j]
    by_cases h : ∃ i : Fin K, i.val < k ∧ v j = t i
    · rw [if_pos h, if_pos (h.imp fun i hi => ⟨Nat.lt_succ_of_lt hi.1, hi.2⟩), ite_self]
    · rw [if_neg h]
      by_cases hj : v j = t ⟨k, hk⟩
      · rw [if_pos hj, if_pos ⟨⟨k, hk⟩, Nat.lt_succ_self k, hj⟩]
      · rw [if_neg hj, if_neg]
        rintro ⟨i, hi, e⟩
        rcases Nat.lt_succ_iff_lt_or_eq.mp hi with hi | hi
        · exact h ⟨i, hi, e⟩
        · exact hj (by rw [e]; exact congrArg t (Fin.ext hi))

/-- THE ROUNDS FIND THE GREATEST ENTRIES: round `k`'s maximum is entry `k` of the `K` greatest, if these strictly descend and stay at or above
    the mask. -/
theorem max_struck_eq_topList (hM : ∀ w, (∀ j, w j ≤ M w) ∧ ∃ j, w j = M w) (hK : K ≤ n)
    (hlt : (topList K (List.ofFn v)).Pairwise (· > ·)) (hneg : ∀ a ∈ topList K (List.ofFn v), neg ≤ a) :
    List.ofFn (fun k : Fin K => M (struck neg M v k.val)) = topList K (List.ofFn v) := by
  have hlen : (topList K (List.ofFn v)).length = K := by rw [length_topList, List.length_ofFn]; exact min_eq_left hK
  have key : ∀ k : Fin K, M (struck neg M v k.val) = (topList K (List.ofFn v))[k.val]'(by rw [hlen]; exact k.isLt) := by
    set L := topList K (List.ofFn v) with hL
    have hmem : ∀ k : Fin K, ∃ j, v j = L[k.val]'(by rw [hlen]; exact k.isLt) := fun k => by
      have h := mem_of_mem_topList (List.getElem_mem (l := L) (by rw [hlen]; exact k.isLt : k.val < L.length))
      exact (List.mem_ofFn' _ _).mp h
    have hstrict : ∀ i k : Fin K, i < k → L[k.val]'(by rw [hlen]; exact k.isLt) < L[i.val]'(by rw [hlen]; exact i.isLt) :=
      fun i k hik => (List.pairwise_iff_getElem.mp hlt) i.val k.val _ _ hik
    have hrest : ∀ j, (∃ k : Fin K, v j = L[k.val]'(by rw [hlen]; exact k.isLt)) ∨ ∀ k : Fin K, v j ≤ L[k.val]'(by rw [hlen]; exact k.isLt) := fun j => by
      by_cases hj : v j ∈ L
      · obtain ⟨i, hi, e⟩ := List.getElem_of_mem hj
        exact Or.inl ⟨⟨i, by rw [hlen] at hi; exact hi⟩, e.symm⟩
      · exact Or.inr fun k => le_of_not_mem_topList (List.getElem_mem _) ((List.mem_ofFn' _ _).mpr ⟨j, rfl⟩) hj
    intro k
    exact max_struck hM hmem hstrict hrest (fun k => hneg _ (List.getElem_mem _)) k
      (struck_eq hM hmem hstrict hrest (fun k => hneg _ (List.getElem_mem _)) k.val (le_of_lt k.isLt))
  refine List.ext_getElem (by rw [List.length_ofFn, hlen]) fun i hi _ => ?_
  rw [List.getElem_ofFn]
  exact key ⟨i, by rw [List.length_ofFn] at hi; exact hi⟩

end Cert.KernelIdeal.Net

end
-- ==== Proof.Columns.lean ====
/-
  THE ROUNDS, READ ROW BY ROW: on the extended reals a row of `topCols` holds the 32 greatest of the row's 1024 entries, descending, when these
  are pairwise distinct and none is below the mask.
-/
module

public import proofs.«01_k».proof.Proof.Values
public import proofs.«01_k».proof.Proof.Rounds
public import Idealize.ShloMosaic.PureOps.Ideal.Laws
public import Idealize.ShloMosaic.Lib.Pointwise

@[expose] public section

noncomputable section

namespace Cert.KernelIdeal.Net

open Idealize.ShloMosaic Idealize.ShloMosaic.SortNet Facts₀

/-- The maximum of a row, from −∞. -/
def maxOf {n : Nat} (w : Fin n → EReal) : EReal := Finset.univ.fold max ⊥ w

theorem le_maxOf {n : Nat} (w : Fin n → EReal) (j : Fin n) : w j ≤ maxOf w :=
  (Finset.le_fold_max (w j)).mpr (Or.inr ⟨j, Finset.mem_univ j, le_refl _⟩)

/-- The maximum is one of the entries. -/
theorem maxOf_attained {n : Nat} (w : Fin (n + 1) → EReal) : ∃ j, w j = maxOf w := by
  rcases (Finset.le_fold_max (s := Finset.univ) (f := w) (b := ⊥) (maxOf w)).mp (le_refl _) with h | ⟨j, _, h⟩
  · exact ⟨0, le_antisymm (le_maxOf w 0) (h.trans bot_le)⟩
  · exact ⟨j, le_antisymm (le_maxOf w j) h⟩

/-- The mask's value. -/
def maskVal : EReal := Ideal.ofBits .f32 0xFF7FFFFF#32

/-- A row's maximum. -/
theorem rowMax_at (v : FVec Ideal S256x1024 .f32) (i : S256x1.Idx) :
    rowMax v i = maxOf fun p : Fin 1024 => v (ix2 (i 0 : Fin 256) p) := by
  unfold rowMax maxOf
  have hb : Ideal.ofBits .f32 0xFF800000#32 = (⊥ : EReal) := by simp [Ideal.ofBits, Ideal.ieee]
  simp only [pointwise]
  rw [hb]

/-- A row after `n` rounds. -/
theorem masked_at (x : FVec Ideal S256x1024 .f32) (r : Fin 256) (n : Nat) :
    (fun p : Fin 1024 => masked x n (ix2 r p)) = struck maskVal maxOf (fun p : Fin 1024 => x (ix2 r p)) n := by
  induction n with
  | zero => rfl
  | succ n ih =>
    funext p
    show Scalar.select (Ideal.cmp .oeq (masked x n (ix2 r p)) (broadcastTo S256x1024 (rowMax (masked x n)) broadcasts_S256x1_S256x1024 (ix2 r p)))
      maskVal (masked x n (ix2 r p)) = strike maskVal maxOf (struck maskVal maxOf (fun p : Fin 1024 => x (ix2 r p)) n) p
    rw [← ih]
    have hm : broadcastTo S256x1024 (rowMax (masked x n)) broadcasts_S256x1_S256x1024 (ix2 r p) = maxOf fun q : Fin 1024 => masked x n (ix2 r q) := by
      simp only [pointwise, rowMax_at]
      rfl
    rw [hm]
    unfold strike
    show Scalar.select (BitVec.ofBool (decide (masked x n (ix2 r p) = _))) _ _ = _
    by_cases h : masked x n (ix2 r p) = maxOf fun q : Fin 1024 => masked x n (ix2 r q)
    · rw [if_pos h, decide_eq_true h]; rfl
    · rw [if_neg h, decide_eq_false h]; rfl

/-- Round `k`'s column of the result. -/
theorem topCols_at (x : FVec Ideal S256x1024 .f32) (r : Fin 256) (k : Fin 32) :
    topCols x (ix2 r k) = maxOf (struck maskVal maxOf (fun p : Fin 1024 => x (ix2 r p)) k.val) := by
  rw [← masked_at]
  refine (concatenate_ofFn_unit_apply' (t := S256x32) (s₁ := S256x1) (N := 32) 1 (fun n => rowMax (masked x n.val))
    concatenates_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x32_d1
    rfl (ix2 r k)).trans ?_
  rw [rowMax_at]
  rfl

/-- A row's 32 greatest are pairwise distinct and not below the mask. -/
def TopDistinct (v : Fin 1024 → EReal) : Prop :=
  (topList 32 (List.ofFn v)).Pairwise (· > ·) ∧ ∀ a ∈ topList 32 (List.ofFn v), maskVal ≤ a

/-- A row of the rounds' result. -/
theorem topCols_eq (x : FVec Ideal S256x1024 .f32) (r : Fin 256) (h : TopDistinct fun p : Fin 1024 => x (ix2 r p)) :
    List.ofFn (α := EReal) (fun k : Fin 32 => topCols x (ix2 r k)) = topList 32 (List.ofFn fun p : Fin 1024 => (x (ix2 r p) : EReal)) := by
  rw [← max_struck_eq_topList (M := maxOf) (fun w => ⟨le_maxOf w, maxOf_attained w⟩) (by decide) h.1 h.2]
  exact congrArg List.ofFn (funext fun k => topCols_at x r k)

/-- Segment `j` of a row of the packed block. -/
theorem packed_at (x0 x1 x2 x3 : FVec Ideal S256x1024 .f32) (r : Fin 256) (j : Fin 4) (k : Fin 32) (t : Fin 128) (ht : t.val = 32 * j.val + k.val) :
    packed x0 x1 x2 x3 (ix2 r t) = topCols (match j with | 0 => x0 | 1 => x1 | 2 => x2 | 3 => x3) (ix2 r k) := by
  have key : ∀ (y : FVec Ideal S256x32 .f32) (i : S256x32.Idx), (i 0).val = r.val → (i 1).val = k.val → y i = y (ix2 r k) := fun y i h0 h1 =>
    congrArg y (funext fun b => match b with | ⟨0, _⟩ => Fin.ext h0 | ⟨1, _⟩ => Fin.ext h1)
  have hc : ((ix2 r t : S256x128.Idx) 1).val = 32 * j.val + k.val := ht
  unfold packed
  rw [concatenate_apply]
  simp only [concatenateAt_cons, concatenateAt_singleton]
  have e32 : ∀ h : S256x128.rank = S256x32.rank, (![256, 32] : Fin 2 → Nat) (Fin.cast h 1) = 32 := fun _ => rfl
  simp only [e32, hc]
  have v1 : ((1 : Fin 4) : Nat) = 1 := rfl
  have v2 : ((2 : Fin 4) : Nat) = 2 := rfl
  have v3 : ((3 : Fin 4) : Nat) = 3 := rfl
  repeat' split
  all_goals first
    | (exfalso; omega)
    | (refine key _ _ rfl ?_
       simp only [Shape.Idx.norm_def, if_true]
       omega)

end Cert.KernelIdeal.Net

end
-- ==== Proof.Gather.lean ====
/-
  THE FOUR ROUNDS BETWEEN THE DEVICES: after round `n` a device holds, of each row, the 32 greatest entries of the columns of the `2 ^ n` devices its
  partners reach; after four rounds these are all sixteen.
-/
module

public import proofs.«01_k».proof.Proof.Contents
public import proofs.«01_k».proof.Proof.Segments
public import proofs.«01_k».proof.Proof.Columns

@[expose] public section

noncomputable section

namespace Cert.KernelIdeal.Net

open Idealize.ShloMosaic Idealize.ShloMosaic.TcCoe Idealize.ShloMosaic.SortNet Idealize.SL.Sem Facts₀

/-- The devices whose columns reach `c` in `n` rounds. -/
def corners : Nat → Dev nD → List (Dev nD)
  | 0, c => [c]
  | n + 1, c => corners n c ++ corners n (pt (Fin.ofNat 4 n) c)

/-- Four rounds reach every device once. -/
theorem corners_all (c : Dev nD) : (corners 4 c).Perm (List.finRange 16) := by revert c; decide +kernel

variable (m : (ℓ : Loc nD τ sig) → Buf (Elt Ideal) ℓ)

/-- Row `r` of row group `j` of device `c`'s columns. -/
def sliceRow (c : Dev nD) (j : Fin 4) (r : Fin 256) : Fin 1024 → EReal := fun p => xs m c j (ix2 r p)

/-- Row `r` of half `h`. -/
def halfRow (h : Fin 2) (r : Fin 128) : Fin 256 := ⟨128 * h.val + r.val, by omega⟩

/-- A list that is some 32 greatest descends. -/
theorem antitone_of_topList {f : Fin 32 → EReal} {l : List EReal} (h : List.ofFn f = topList 32 l) : Antitone f := by
  have hp := pairwise_topList 32 l
  rw [← h, List.pairwise_ofFn] at hp
  intro i k hik
  rcases eq_or_lt_of_le hik with rfl | hlt
  · exact le_refl _
  · exact hp hlt

theorem half_at (h : Fin 2) (p : FVec Ideal S256x128 .f32) (r t : Fin 128) : half h p (ix2 r t) = p (ix2 (halfRow h r) t) := by
  refine congrArg p (funext fun b => ?_)
  match b with
  | ⟨0, _⟩ => exact Fin.ext rfl
  | ⟨1, _⟩ => exact Fin.ext (Nat.zero_add _)

theorem base_at (c : Dev nD) (h : Fin 2) (r : Fin 128) (j : Fin 4) (k : Fin 32) :
    segRow (half h (base m c)) r j k = topCols (xs m c j) (ix2 (halfRow h r) k) := by
  have e : segRow (half h (base m c)) r j k = base m c (ix2 (halfRow h r) (lane j k)) :=
    half_at h (base m c) r (lane j k)
  rw [e]
  refine (packed_at _ _ _ _ (halfRow h r) j k (lane j k) rfl).trans ?_
  match j with
  | 0 => rfl
  | 1 => rfl
  | 2 => rfl
  | 3 => rfl

/-- WHAT A DEVICE HOLDS after `n` rounds. -/
theorem acc_at (H : ∀ c j r, TopDistinct (sliceRow m c j r)) (n : Nat) : ∀ (c : Dev nD) (h : Fin 2) (r : Fin 128) (j : Fin 4),
    List.ofFn (α := EReal) (segRow (acc m n c h) r j)
      = topList 32 ((corners n c).flatMap fun d => List.ofFn (sliceRow m d j (halfRow h r))) := by
  induction n with
  | zero =>
    intro c h r j
    rw [show corners 0 c = [c] from rfl, List.flatMap_singleton]
    refine Eq.trans ?_ (topCols_eq (xs m c j) (halfRow h r) (H c j (halfRow h r)))
    exact congrArg List.ofFn (funext fun k => base_at m c h r j k)
  | succ n ih =>
    intro c h r j
    have h1 := ih c h r j
    have h2 := ih (pt (Fin.ofNat 4 n) c) h r j
    refine (merge_at _ _ r j (antitone_of_topList h1) (antitone_of_topList h2)).2.trans ?_
    rw [h1, h2, topList_append_topList_topList, ← List.flatMap_append]
    rfl

/-- Row `r` of row group `j`, among the 1024 rows. -/
def rowOf (j : Fin 4) (r : Fin 256) : Fin 1024 := ⟨256 * j.val + r.val, by omega⟩

theorem outAt_at (c : Dev nD) (j : Fin 4) (h : Fin 2) (r : Fin 128) (k : Fin 32) :
    outAt m c (ix2 (rowOf j (halfRow h r)) k) = segRow (acc m 4 c h) r j k := by
  have hv : (rowOf j (halfRow h r)).val = 256 * j.val + (128 * h.val + r.val) := rfl
  have e1 : (rowOf j (halfRow h r)).val % 256 / 128 = h.val := by omega
  have e2 : (rowOf j (halfRow h r)).val % 256 % 128 = r.val := by omega
  have e3 : (rowOf j (halfRow h r)).val / 256 = j.val := by omega
  have key : ∀ (g g' : Fin 2) (i i' : S128x128.Idx), g = g' → i = i' → acc m 4 c g i = acc m 4 c g' i' := by
    rintro g _ i _ rfl rfl; rfl
  refine key _ _ _ _ (Fin.ext e1) (funext fun b => ?_)
  match b with
  | ⟨0, _⟩ => exact Fin.ext e2
  | ⟨1, _⟩ => exact Fin.ext (by show 32 * ((rowOf j (halfRow h r)).val / 256) + k.val = 32 * j.val + k.val; rw [e3])

/-- A ROW OF THE RESULT: on every device the 32 greatest entries of the sixteen devices' columns. -/
theorem outAt_eq (H : ∀ c j r, TopDistinct (sliceRow m c j r)) (c : Dev nD) (j : Fin 4) (r : Fin 256) :
    List.ofFn (α := EReal) (fun k : Fin 32 => outAt m c (ix2 (rowOf j r) k))
      = topList 32 ((List.finRange 16).flatMap fun d => List.ofFn (sliceRow m d j r)) := by
  obtain ⟨h, q, rfl⟩ : ∃ (h : Fin 2) (q : Fin 128), r = halfRow h q :=
    ⟨⟨r.val / 128, by omega⟩, ⟨r.val % 128, by omega⟩, Fin.ext (by show r.val = 128 * (r.val / 128) + r.val % 128; omega)⟩
  rw [← topList_perm ((corners_all c).flatMap_right _), ← acc_at m H 4 c h q j]
  exact congrArg List.ofFn (funext fun k => outAt_at m c j h q k)

end Cert.KernelIdeal.Net

end
-- ==== Proof.Sorted.lean ====
/-
  A SORTED ROW AND ITS GREATEST ENTRIES: the sort's permutation by a key lists the row in the key's order, so the greatest entries of the row are
  read at one end of it.
-/
module

public import Idealize.ShloMosaic.Lib.SortFacts
public import Idealize.ShloMosaic.Lib.SortNet.TopList
public import Mathlib.Data.List.OfFn
public import Mathlib.Data.Fin.Rev
public import Mathlib.Data.Fintype.EquivFin

@[expose] public section

namespace Cert.KernelIdeal.Net

open Idealize.ShloMosaic Idealize.ShloMosaic.SortNet

variable {α : Type*} [LinearOrder α] {n : Nat}

/-- The greatest entries of a row, from any descending arrangement of it. -/
theorem topList_of_antitone {K : Nat} {f g : Fin n → α} (hg : Antitone g) (hp : (List.ofFn g).Perm (List.ofFn f)) (hK : K ≤ n) :
    topList K (List.ofFn f) = List.ofFn fun k : Fin K => g (k.castLE hK) := by
  have hd : (List.ofFn g).Pairwise (· ≥ ·) := List.pairwise_ofFn.mpr fun i j hij => hg (le_of_lt hij)
  unfold topList
  rw [← eq_of_perm_of_descending (hp.trans (List.perm_insertionSort (· ≥ ·) _).symm) hd (List.pairwise_insertionSort (· ≥ ·) _)]
  refine List.ext_getElem (by simp [hK]) fun i h₁ h₂ => ?_
  rw [List.getElem_take, List.getElem_ofFn, List.getElem_ofFn]
  rfl

/-- A row rearranged by a sort is a permutation of it. -/
theorem ofFn_sortedFrom_perm (before : Fin n → Fin n → Bool) (f : Fin n → α) :
    (List.ofFn fun k => f (sortedFrom before k)).Perm (List.ofFn f) :=
  Equiv.Perm.ofFn_comp_perm (Equiv.ofBijective (sortedFrom before) ⟨sortedFrom_injective before, sortedFrom_surjective before⟩) f

/-- A sort by "less" ascends. -/
theorem monotone_sortedFrom (f : Fin n → α) : Monotone fun k => f (sortedFrom (fun k k' => decide (f k < f k')) k) := by
  intro i j hij
  rcases eq_or_lt_of_le hij with rfl | h
  · exact le_refl _
  · have hn := sortedFrom_noInversion (fun k k' => decide (f k < f k')) (fun k k' => decide (f k < f k'))
      (fun a b hab => decide_eq_false (not_lt.mpr (le_of_lt (of_decide_eq_true hab)))) (fun _ _ h => h)
      (fun a b c hab hbc => decide_eq_false (not_lt.mpr
        (le_trans (not_lt.mp (of_decide_eq_false hbc)) (not_lt.mp (of_decide_eq_false hab))))) i j h
    exact not_lt.mp (of_decide_eq_false hn)

/-- A sort by "greater" descends. -/
theorem antitone_sortedFrom (f : Fin n → α) : Antitone fun k => f (sortedFrom (fun k k' => decide (f k' < f k)) k) :=
  monotone_sortedFrom (α := αᵒᵈ) f

/-- The greatest entries, at the head of a sort by "greater". -/
theorem topList_sortedFrom_greater {K : Nat} (f : Fin n → α) (hK : K ≤ n) :
    topList K (List.ofFn f) = List.ofFn fun k : Fin K => f (sortedFrom (fun k k' => decide (f k' < f k)) (k.castLE hK)) :=
  topList_of_antitone (antitone_sortedFrom f) (ofFn_sortedFrom_perm _ f) hK

/-- The greatest entries, at the tail of a sort by "less". -/
theorem topList_sortedFrom_less {K : Nat} (f : Fin n → α) (hK : K ≤ n) :
    topList K (List.ofFn f) = List.ofFn fun k : Fin K => f (sortedFrom (fun k k' => decide (f k < f k')) (k.castLE hK).rev) := by
  refine topList_of_antitone (g := fun k => f (sortedFrom (fun k k' => decide (f k < f k')) k.rev))
    (fun i j hij => monotone_sortedFrom f (Fin.rev_le_rev.mpr hij)) ?_ hK
  exact (Equiv.Perm.ofFn_comp_perm (Fin.revPerm) fun k => f (sortedFrom (fun k k' => decide (f k < f k')) k)).trans (ofFn_sortedFrom_perm _ f)

/-- When the last `K` entries of the sort by "less" strictly ascend, and the first of them is at least `b`, the `K` greatest strictly descend and
    are at least `b`. -/
theorem topList_strict {K : Nat} (f : Fin n → α) (hK : K ≤ n) (b : α)
    (hlt : ∀ k k' : Fin n, n - K ≤ k.val → k'.val = k.val + 1 →
      f (sortedFrom (fun k k' => decide (f k < f k')) k) < f (sortedFrom (fun k k' => decide (f k < f k')) k'))
    (hb : ∀ k : Fin n, k.val = n - K → b ≤ f (sortedFrom (fun k k' => decide (f k < f k')) k)) :
    (topList K (List.ofFn f)).Pairwise (· > ·) ∧ ∀ a ∈ topList K (List.ofFn f), b ≤ a := by
  rw [topList_sortedFrom_less f hK]
  refine ⟨List.pairwise_ofFn.mpr fun i j hij => ?_, fun a ha => ?_⟩
  · have hi := i.isLt
    have hj := j.isLt
    have hv : i.val < j.val := hij
    have h1 := hlt (j.castLE hK).rev ⟨(j.castLE hK).rev.val + 1, by simp only [Fin.val_rev, Fin.val_castLE]; omega⟩
      (by simp only [Fin.val_rev, Fin.val_castLE]; omega) rfl
    refine lt_of_lt_of_le h1 (monotone_sortedFrom f ?_)
    show (j.castLE hK).rev.val + 1 ≤ (i.castLE hK).rev.val
    simp only [Fin.val_rev, Fin.val_castLE]; omega
  · obtain ⟨k, rfl⟩ := (List.mem_ofFn' _ _).mp ha
    have hk := k.isLt
    refine (hb ⟨n - K, by omega⟩ rfl).trans (monotone_sortedFrom f ?_)
    show n - K ≤ (k.castLE hK).rev.val
    simp only [Fin.val_rev, Fin.val_castLE]; omega

end Cert.KernelIdeal.Net

end
-- ==== Proof.Place.lean ====
/-
  WHERE THE ENTRIES COME FROM: what device `c` ranks are 1024 columns of its own block, the columns `1024 c` on of the whole array; and when the
  precondition holds of its block, every row of them has its 32 greatest entries pairwise distinct and not below the mask.
-/
module

public import proofs.«01_k».proof.Proof.Gather
public import proofs.«01_k».proof.Proof.Sorted
public import proofs.«01_k».proof.Proof.Gen.Pre_top_distinct_KernelIdeal
public import Idealize.ShloMosaic.Lib.Layout

@[expose] public section

noncomputable section

namespace Cert.KernelIdeal.Net

open Idealize.ShloMosaic Idealize.ShloMosaic.TcCoe Idealize.ShloMosaic.SortNet Idealize.SL.Sem Facts₀

/-- Column `p` of slice `q` of a device's block. -/
def colOf (q : Fin 8) (p : Fin 1024) : Fin 8192 := ⟨1024 * q.val + p.val, by omega⟩

/-- The slice that device `c` ranks. -/
def ownSlice (c : Dev nD) : Fin 8 := ⟨c.val % 8, Nat.mod_lt _ (by decide)⟩

theorem srcOff_row (j : Fin 4) (c : Dev nD) : srcOff j c 0 = 256 * j.val := by revert j c; decide +kernel

theorem srcOff_col (j : Fin 4) (c : Dev nD) : srcOff j c 1 = 1024 * (c.val % 8) := by revert j c; decide +kernel

/-- What device `c` ranks, in its block. -/
theorem sliceRow_eq (m : (ℓ : Loc nD τ sig) → Buf (Elt Ideal) ℓ) (c : Dev nD) (j : Fin 4) (r : Fin 256) (p : Fin 1024) :
    sliceRow m c j r p = m ((c : Thread nD τ).loc main_arg0) (ix2 (rowOf j r) (colOf (ownSlice c) p) : S1024x8192.Idx) := by
  refine congrArg (m ((c : Thread nD τ).loc main_arg0)) (funext fun a => ?_)
  match a with
  | ⟨0, _⟩ =>
    refine Fin.ext ?_
    show srcOff j c 0 + 1 * r.val = 256 * j.val + r.val
    rw [srcOff_row, Nat.one_mul]
  | ⟨1, _⟩ =>
    refine Fin.ext ?_
    show srcOff j c 1 + 1 * p.val = 1024 * (c.val % 8) + p.val
    rw [srcOff_col, Nat.one_mul]

/-! ## The precondition -/

/-- The precondition's order is "less". -/
theorem before_eq (l r : EReal) :
    Cert.Pre_top_distinct_KernelIdeal.comparator_f32_d2 (F := Ideal) l r = BitVec.ofBool (decide (l < r)) := by
  have key : ∀ (x z w : EReal), Scalar.select (BitVec.ofBool (decide (x ≠ x))) w (Scalar.select (BitVec.ofBool (decide (x = z))) z x) = x := by
    intro x z w
    rw [decide_eq_false (not_not.mpr rfl)]
    by_cases h : x = z
    · rw [decide_eq_true h, h]; rfl
    · rw [decide_eq_false h]; rfl
  show BitVec.ofBool (decide ((Scalar.select (BitVec.ofBool (decide (l ≠ l))) _ (Scalar.select (BitVec.ofBool (decide (l = _))) _ l) : EReal)
    < Scalar.select (BitVec.ofBool (decide (r ≠ r))) _ (Scalar.select (BitVec.ofBool (decide (r = _))) _ r))) = _
  rw [key, key]

/-- A device's block with its columns cut into eight slices. -/
theorem reshaped_at (X : S1024x8192.Idx → EReal) (h : S1024x8192.ShapeCasts (⟨3, ![1024, 8, 1024]⟩ : Shape)) (R : Fin 1024) (q : Fin 8) (p : Fin 1024) :
    shapeCast (⟨3, ![1024, 8, 1024]⟩ : Shape) X h (ix3 R q p) = X (ix2 R (colOf q p) : S1024x8192.Idx) := by
  simp only [pointwise]
  exact congrArg (fun t => X (ix2 R t : S1024x8192.Idx)) (Fin.ext (by show q.val * 1024 + p.val = 1024 * q.val + p.val; rw [Nat.mul_comm]))

/-- A comparison's word, back to the comparison. -/
theorem of_cmp {p : Prop} [Decidable p] (h : BitVec.ofBool (decide p) = 1#1) : p := by
  by_contra hn
  rw [decide_eq_false hn] at h
  exact absurd h (by decide)

open Cert.Pre_top_distinct_KernelIdeal in
/-- A slice's row sorted. -/
theorem sorted_at [Cert.Pre_top_distinct_KernelIdeal.Facts] (Y : S1024x8x1024.Idx → EReal) (R : Fin 1024) (q : Fin 8) (f : Fin 1024 → EReal)
    (hf : ∀ p, Y (ix3 R q p) = f p) (k : Fin 1024) :
    fn_sort (F := Ideal) Y (ix3 R q k) = f (sortedFrom (fun k k' => decide (f k < f k')) k) := by
  have hal : ∀ a : Fin 1024, (ix3 R q k : S1024x8x1024.Idx).along 2 a = ix3 R q a := fun a => by
    funext b
    match b with
    | ⟨0, _⟩ => rfl
    | ⟨1, _⟩ => rfl
    | ⟨2, _⟩ => rfl
  have hb : (fun k₁ k₂ : Fin 1024 => comparator_f32_d2 (F := Ideal) (Y ((ix3 R q k : S1024x8x1024.Idx).along 2 k₁)) (Y ((ix3 R q k : S1024x8x1024.Idx).along 2 k₂)) == 1#1)
      = fun k₁ k₂ => decide (f k₁ < f k₂) := by
    funext a b
    rw [hal, hal, hf, hf, before_eq]
    cases decide (f a < f b) <;> rfl
  show Y ((ix3 R q k : S1024x8x1024.Idx).along 2 (sortedFrom (fun k₁ k₂ : Fin 1024 =>
    comparator_f32_d2 (F := Ideal) (Y ((ix3 R q k : S1024x8x1024.Idx).along 2 k₁)) (Y ((ix3 R q k : S1024x8x1024.Idx).along 2 k₂)) == 1#1) k)) = _
  rw [hb]
  exact (congrArg Y (hal _)).trans (hf _)

open Cert.Pre_top_distinct_KernelIdeal in
/-- The precondition of a device's block, read at row `R` of slice `q`. -/
theorem topDistinct_of_pre [Cert.Pre_top_distinct_KernelIdeal.Facts] (X : FVec Ideal Cert.KernelIdeal.S1024x8192 .f32)
    (h₁ : (fn (F := Ideal) X).1 = fun _ => 1#1) (h₂ : (fn (F := Ideal) X).2 = fun _ => 1#1) (R : Fin 1024) (q : Fin 8)
    (f : Fin 1024 → EReal) (hf : ∀ p, X (ix2 R (colOf q p)) = f p) : TopDistinct f := by
  have hs := sorted_at (shapeCast S1024x8x1024 X Facts.shapeCasts_S1024x8192_S1024x8x1024) R q f fun p => (reshaped_at X _ R q p).trans (hf p)
  refine topList_strict f (by decide) maskVal (fun k k' hk hk' => ?_) fun k hk => ?_
  · rw [← hs, ← hs]
    have h := congrFun h₁ (ix3 R q (⟨k.val - 992, by omega⟩ : Fin 31))
    have h' : Ideal.cmp .ogt (fn_sort (F := Ideal) (shapeCast S1024x8x1024 X Facts.shapeCasts_S1024x8192_S1024x8x1024) (ix3 R q k'))
        (fn_sort (F := Ideal) (shapeCast S1024x8x1024 X Facts.shapeCasts_S1024x8192_S1024x8x1024) (ix3 R q k)) = 1#1 := by
      rw [← h]
      refine congrArg₂ (Ideal.cmp .ogt) (congrArg _ (funext fun b => ?_)) (congrArg _ (funext fun b => ?_))
      · match b with
        | ⟨0, _⟩ => exact Fin.ext (by show R.val = 0 + (0 + R.val); omega)
        | ⟨1, _⟩ => exact Fin.ext (by show q.val = 0 + (0 + q.val); omega)
        | ⟨2, _⟩ => exact Fin.ext (by show k'.val = 992 + (1 + (k.val - 992)); omega)
      · match b with
        | ⟨0, _⟩ => exact Fin.ext (by show R.val = 0 + (0 + R.val); omega)
        | ⟨1, _⟩ => exact Fin.ext (by show q.val = 0 + (0 + q.val); omega)
        | ⟨2, _⟩ => exact Fin.ext (by show k.val = 992 + (0 + (k.val - 992)); omega)
    exact of_cmp h'
  · rw [← hs]
    have h := congrFun h₂ (ix3 R q (0 : Fin 1))
    have h' : Ideal.cmp .oge (fn_sort (F := Ideal) (shapeCast S1024x8x1024 X Facts.shapeCasts_S1024x8192_S1024x8x1024) (ix3 R q k)) maskVal = 1#1 := by
      rw [← h]
      refine congrArg₂ (Ideal.cmp .oge) (congrArg _ (funext fun b => ?_)) rfl
      match b with
      | ⟨0, _⟩ => exact Fin.ext (by show R.val = 0 + (0 + R.val); omega)
      | ⟨1, _⟩ => exact Fin.ext (by show q.val = 0 + (0 + q.val); omega)
      | ⟨2, _⟩ => exact Fin.ext (by show k.val = 992 + (0 + 0); omega)
    exact of_cmp h'

end Cert.KernelIdeal.Net

end
-- ==== Proof.Reference.lean ====
/-
  THE REFERENCE'S VALUE: it ranks the negated row together with the column numbers, keeps the first 32 numbers, and reads the row there: the row's
  topmost 32 entries, greatest first. The column numbers are in range, so what guards the reading never acts.
-/
module

public import proofs.«01_k».proof.Proof.Columns
public import proofs.«01_k».proof.Proof.Sorted
public import proofs.«01_k».proof.Proof.Gen.ReferenceIdeal

@[expose] public section

noncomputable section

namespace Cert.ReferenceIdeal.Rank

open Cert.ReferenceIdeal Idealize.ShloMosaic Idealize.ShloMosaic.TcCoe Idealize.ShloMosaic.SortNet Idealize.SL.Sem Facts₀

/-- The column numbers, each row ranked. -/
def numbers (X : FVec Ideal S1024x16384 .f32) : IVec S1024x16384 32 :=
  (Host.sort2 S1024x16384 1 (comparator_f32_i32_d1 (F := Ideal)) (Host.negf X) (iotaInDim S1024x16384 32 1)).2

/-- The first 32 of each row. -/
def firsts (X : FVec Ideal S1024x16384 .f32) : IVec S1024x32 32 :=
  extractStridedSlice S1024x32 ![0, 0] (numbers X) slices_S1024x16384_S1024x32_0_0

/-- The numbers as the reading takes them: a negative one counts from the end. -/
def places (W : IVec S1024x32 32) : IVec S1024x32x1 32 :=
  shapeCast S1024x32x1 (select (cmpi .slt W (broadcastInDim S1024x32 ![] bcast_S_S1024x32 (constantI S_ 32 0#32)))
    (addi W (broadcastInDim S1024x32 ![] bcast_S_S1024x32 (constantI S_ 32 16384#32))) W) shapeCasts_S1024x32_S1024x32x1

/-- Whether a number is in range. -/
def inRange (P : IVec S1024x32x1 32) : IVec S1024x32x1 1 :=
  andi (cmpi .sge P (broadcastInDim S1024x32x1 ![] bcast_S_S1024x32x1 (constantI S_ 32 0#32)))
    (cmpi .sle P (broadcastInDim S1024x32x1 ![0, 1, 2] bcast_S1x1x1_S1024x32x1_0_1_2
      (broadcastInDim S1x1x1 ![2] bcast_S1_S1x1x1_2 (constantI S1 32 16383#32))))

/-- The reference's result. -/
def refOut (X : FVec Ideal S1024x16384 .f32) : FVec Ideal S1024x32 .f32 :=
  select (Host.reduce IntOp.andi (inRange (places (firsts X))) (constantI S_ 1 1#1) reducesTo_S1024x32x1_S1024x32_d2 h_S_)
    (Host.gather gather_S1024x16384_S1024x32x1_S1024x32_n_1_0_0_1_2_11 X (places (firsts X)))
    (broadcastInDim S1024x32 ![] bcast_S_S1024x32 (constant (F := Ideal) S_ .f32 0x7FC00000#32))

/-! ## The ranking -/

/-- The reference's order is "less" on the keys. -/
theorem before_eq (l r : EReal × BitVec 32) :
    comparator_f32_i32_d1 (F := Ideal) l r = BitVec.ofBool (decide (l.1 < r.1)) := by
  have key : ∀ (x z w : EReal), Scalar.select (BitVec.ofBool (decide (x ≠ x))) w (Scalar.select (BitVec.ofBool (decide (x = z))) z x) = x := by
    intro x z w
    rw [decide_eq_false (not_not.mpr rfl)]
    by_cases h : x = z
    · rw [decide_eq_true h, h]; rfl
    · rw [decide_eq_false h]; rfl
  show BitVec.ofBool (decide ((Scalar.select (BitVec.ofBool (decide (l.1 ≠ l.1))) _ (Scalar.select (BitVec.ofBool (decide (l.1 = _))) _ l.1) : EReal)
    < Scalar.select (BitVec.ofBool (decide (r.1 ≠ r.1))) _ (Scalar.select (BitVec.ofBool (decide (r.1 = _))) _ r.1))) = _
  rw [key, key]

/-- Two arrays of rows ranked by the first: the second's entry. -/
theorem sort2_at {α β : Type} {n N : Nat} (cmp : α × β → α × β → BitVec 1) (x : (⟨2, ![n, N]⟩ : Shape).Idx → α) (y : (⟨2, ![n, N]⟩ : Shape).Idx → β)
    (R : Fin n) (k : Fin N) :
    (Host.sort2 ⟨2, ![n, N]⟩ 1 cmp x y).2 (ix2 R k)
      = y (ix2 R (sortedFrom (fun a b => cmp (x (ix2 R a), y (ix2 R a)) (x (ix2 R b), y (ix2 R b)) == 1#1) k)) := by
  have hal : ∀ a : Fin N, (ix2 R k : (⟨2, ![n, N]⟩ : Shape).Idx).along 1 a = ix2 R a := fun a => by
    funext b
    match b with
    | ⟨0, _⟩ => rfl
    | ⟨1, _⟩ => rfl
  have hb : (fun a b : Fin N => cmp (x ((ix2 R k : (⟨2, ![n, N]⟩ : Shape).Idx).along 1 a), y ((ix2 R k : (⟨2, ![n, N]⟩ : Shape).Idx).along 1 a))
      (x ((ix2 R k : (⟨2, ![n, N]⟩ : Shape).Idx).along 1 b), y ((ix2 R k : (⟨2, ![n, N]⟩ : Shape).Idx).along 1 b)) == 1#1)
      = fun a b => cmp (x (ix2 R a), y (ix2 R a)) (x (ix2 R b), y (ix2 R b)) == 1#1 := by
    funext a b
    rw [hal, hal]
  have hs : (Host.sort2 ⟨2, ![n, N]⟩ 1 cmp x y).2 (ix2 R k) = y ((ix2 R k : (⟨2, ![n, N]⟩ : Shape).Idx).along 1 (sortedFrom (fun a b : Fin N =>
      cmp (x ((ix2 R k : (⟨2, ![n, N]⟩ : Shape).Idx).along 1 a), y ((ix2 R k : (⟨2, ![n, N]⟩ : Shape).Idx).along 1 a))
      (x ((ix2 R k : (⟨2, ![n, N]⟩ : Shape).Idx).along 1 b), y ((ix2 R k : (⟨2, ![n, N]⟩ : Shape).Idx).along 1 b)) == 1#1) k)) := rfl
  rw [hs, hb]
  exact congrArg y (hal _)

/-- A column number. -/
theorem iota_at {n N : Nat} (R : Fin n) (p : Fin N) : iotaInDim (⟨2, ![n, N]⟩ : Shape) 32 1 (ix2 R p) = BitVec.ofNat 32 p.val := rfl

/-- A choice made true. -/
theorem select_true {α : Type} {s : Shape} {c : IVec s 1} (a b : s.Idx → α) {i : s.Idx} (h : c i = 1#1) : select c a b i = a i := by
  show Scalar.select (c i) (a i) (b i) = a i
  rw [h]
  rfl

/-- Where a row's entry of rank `k` sits. -/
def rank (X : FVec Ideal S1024x16384 .f32) (R : Fin 1024) (k : Fin 16384) : Fin 16384 :=
  sortedFrom (fun a b => decide ((X (ix2 R b : S1024x16384.Idx) : EReal) < X (ix2 R a : S1024x16384.Idx))) k

theorem numbers_at (X : FVec Ideal S1024x16384 .f32) (R : Fin 1024) (k : Fin 16384) :
    numbers X (ix2 R k : S1024x16384.Idx) = BitVec.ofNat 32 (rank X R k).val := by
  have hb : (fun a b : Fin 16384 => comparator_f32_i32_d1 (F := Ideal)
        (Host.negf X (ix2 R a : S1024x16384.Idx), iotaInDim S1024x16384 32 1 (ix2 R a : S1024x16384.Idx))
        (Host.negf X (ix2 R b : S1024x16384.Idx), iotaInDim S1024x16384 32 1 (ix2 R b : S1024x16384.Idx)) == 1#1)
      = fun a b => decide ((X (ix2 R b : S1024x16384.Idx) : EReal) < X (ix2 R a : S1024x16384.Idx)) := by
    funext a b
    have hd : decide ((Host.negf X (ix2 R a : S1024x16384.Idx) : EReal) < Host.negf X (ix2 R b : S1024x16384.Idx))
      = decide ((X (ix2 R b : S1024x16384.Idx) : EReal) < X (ix2 R a : S1024x16384.Idx)) := decide_eq_decide.mpr EReal.neg_lt_neg_iff
    rw [before_eq]
    refine (congrArg (fun t => BitVec.ofBool t == 1#1) hd).trans ?_
    generalize decide ((X (ix2 R b : S1024x16384.Idx) : EReal) < X (ix2 R a : S1024x16384.Idx)) = t
    cases t <;> rfl
  unfold numbers rank
  rw [sort2_at, hb, iota_at]

theorem firsts_at (X : FVec Ideal S1024x16384 .f32) (R : Fin 1024) (k : Fin 32) :
    firsts X (ix2 R k : S1024x32.Idx) = BitVec.ofNat 32 (rank X R (k.castLE (by decide))).val := by
  rw [← numbers_at]
  refine congrArg (numbers X) (funext fun b => ?_)
  match b with
  | ⟨0, _⟩ => exact Fin.ext (Nat.zero_add _)
  | ⟨1, _⟩ => exact Fin.ext (Nat.zero_add _)

/-! ## The reading -/

/-- A column number's word, read signed. -/
theorem toInt_of_lt {n : Nat} (h : n < 16384) : (BitVec.ofNat 32 n).toInt = n := by
  rw [BitVec.toInt_ofNat']
  exact Int.bmod_eq_of_le (by omega) (by omega)

theorem places_at (W : IVec S1024x32 32) (R : Fin 1024) (k : Fin 32) (z : Fin 1) {n : Nat} (hn : n < 16384)
    (hW : W (ix2 R k : S1024x32.Idx) = BitVec.ofNat 32 n) : places W (ix3 R k z : S1024x32x1.Idx) = BitVec.ofNat 32 n := by
  have hz : z.val = 0 := by omega
  have hs : places W (ix3 R k z : S1024x32x1.Idx)
      = Scalar.select (IntOp.cmpi .slt (W (ix2 R k : S1024x32.Idx)) 0#32) (W (ix2 R k : S1024x32.Idx) + 16384#32) (W (ix2 R k : S1024x32.Idx)) := by
    have hr : ∀ (Y : IVec S1024x32 32) (h : S1024x32.ShapeCasts S1024x32x1), shapeCast S1024x32x1 Y h (ix3 R k z : S1024x32x1.Idx) = Y (ix2 R k : S1024x32.Idx) := by
      intro Y h
      simp only [pointwise]
    exact hr _ _
  rw [hs, hW]
  have hc : IntOp.cmpi .slt (BitVec.ofNat 32 n) 0#32 = 0#1 := by
    show BitVec.ofBool ((BitVec.ofNat 32 n).slt 0#32) = 0#1
    rw [BitVec.slt, toInt_of_lt hn, decide_eq_false (show ¬ (n : Int) < (0#32 : BitVec 32).toInt by show ¬ (n : Int) < 0; omega)]
    rfl
  rw [hc]
  rfl

theorem inRange_at (P : IVec S1024x32x1 32) (i : S1024x32x1.Idx) {n : Nat} (hn : n < 16384) (hP : P i = BitVec.ofNat 32 n) :
    inRange P i = 1#1 := by
  show IntOp.andi (IntOp.cmpi .sge (P i) 0#32) (IntOp.cmpi .sle (P i) 16383#32) = 1#1
  have h1 : IntOp.cmpi .sge (BitVec.ofNat 32 n) 0#32 = 1#1 := by
    show BitVec.ofBool ((0#32 : BitVec 32).sle (BitVec.ofNat 32 n)) = 1#1
    rw [BitVec.sle, toInt_of_lt hn]
    simp
  have h2 : IntOp.cmpi .sle (BitVec.ofNat 32 n) 16383#32 = 1#1 := by
    show BitVec.ofBool ((BitVec.ofNat 32 n).sle 16383#32) = 1#1
    rw [BitVec.sle, toInt_of_lt hn]
    have : (n : Int) ≤ (16383#32 : BitVec 32).toInt := by show (n : Int) ≤ 16383; omega
    rw [decide_eq_true this]; rfl
  rw [hP, h1, h2]
  rfl

/-- Ones, all of them conjoined. -/
theorem reduce_ones {s t u : Shape} {axes : List (Fin s.rank)} (x : s.Idx → BitVec 1) (init : u.Idx → BitVec 1) (h : s.ReducesTo axes t)
    (hu : 0 < u.numel) (hx : ∀ i, x i = 1#1) (hi : ∀ i, init i = 1#1) (j : t.Idx) : Host.reduce IntOp.andi x init h hu j = 1#1 := by
  have hl : ∀ l : List (Fin s.numel), l.foldl (fun r n => IntOp.andi r (x (s.rowMajor.symm n))) 1#1 = 1#1 := by
    intro l
    induction l with
    | nil => rfl
    | cons a l ih =>
      rw [List.foldl_cons, hx]
      exact ih
  unfold Host.reduce
  rw [hi]
  exact hl _

/-- How the reading is laid out. -/
abbrev gd : GatherDims S1024x16384 S1024x32x1 S1024x32 := gather_S1024x16384_S1024x32x1_S1024x32_n_1_0_0_1_2_11

/-- The reading takes row `R` at the number given for `(R, k)`. -/
theorem gather_at (X : FVec Ideal S1024x16384 .f32) (P : IVec S1024x32x1 32) (R : Fin 1024) (k : Fin 32) (p : Fin 16384)
    (hP : P (ix3 R k 0 : S1024x32x1.Idx) = BitVec.ofNat 32 p.val) :
    Host.gather gd X P (ix2 R k : S1024x32.Idx) = X (ix2 R p : S1024x16384.Idx) := by
  refine congrArg X (funext fun a => Fin.ext ?_)
  show GatherDims.start gd (ix2 R k : S1024x32.Idx) P a + GatherDims.batchCoord gd (ix2 R k : S1024x32.Idx) a
    + GatherDims.offCoord gd (ix2 R k : S1024x32.Idx) a = _
  match a with
  | ⟨0, _⟩ =>
    have hm : (0 : Fin 2) ∈ GatherDims.operandBatchingDims gd := List.mem_singleton.mpr rfl
    have h1 := GatherDims.start_batching gd (ix2 R k : S1024x32.Idx) P (0 : Fin 2) hm
    have h2 := GatherDims.offCoord_eq_zero gd (ix2 R k : S1024x32.Idx) (0 : Fin 2) fun h => ((GatherDims.mem_sKept _ _).mp h).2 hm
    have h3 : GatherDims.batchCoord gd (ix2 R k : S1024x32.Idx) (0 : Fin 2) = R.val := by
      unfold GatherDims.batchCoord
      rw [dif_pos hm]
      rfl
    exact (congrArg₂ (· + ·) (congrArg₂ (· + ·) h1 h3) h2).trans (by simp)
  | ⟨1, _⟩ =>
    have hc : (1 : Fin 2) ∈ GatherDims.collapsedSliceDims gd := List.mem_singleton.mpr rfl
    have hm : (1 : Fin 2) ∈ GatherDims.startIndexMap gd := List.mem_singleton.mpr rfl
    have h1 := GatherDims.batchCoord_eq_zero gd (ix2 R k : S1024x32.Idx) (1 : Fin 2) fun h => absurd (List.mem_singleton.mp h) (by decide)
    have h2 := GatherDims.offCoord_eq_zero gd (ix2 R k : S1024x32.Idx) (1 : Fin 2) fun h => ((GatherDims.mem_sKept _ _).mp h).1 hc
    have h3 : GatherDims.start gd (ix2 R k : S1024x32.Idx) P (1 : Fin 2) = p.val := by
      unfold GatherDims.start
      rw [dif_pos hm]
      have hi : GatherDims.siIdx gd (ix2 R k : S1024x32.Idx) ⟨List.idxOf (1 : Fin 2) (GatherDims.startIndexMap gd), List.idxOf_lt_length_iff.2 hm⟩
          = (ix3 R k 0 : S1024x32x1.Idx) := by
        funext b
        match b with
        | ⟨0, _⟩ => rfl
        | ⟨1, _⟩ => rfl
        | ⟨2, _⟩ => rfl
      have hw := (congrArg P hi).trans hP
      have hv := congrArg (fun w : BitVec 32 => min w.toInt.toNat (16384 - 1)) hw
      refine hv.trans ?_
      show min (BitVec.ofNat 32 p.val).toInt.toNat (16384 - 1) = p.val
      rw [toInt_of_lt p.isLt, Int.toNat_natCast]
      omega
    exact (congrArg₂ (· + ·) (congrArg₂ (· + ·) h3 h1) h2).trans (by simp)

/-- The reference's result, entry by entry. -/
theorem refOut_at (X : FVec Ideal S1024x16384 .f32) (R : Fin 1024) (k : Fin 32) :
    refOut X (ix2 R k : S1024x32.Idx) = X (ix2 R (rank X R (k.castLE (by decide))) : S1024x16384.Idx) := by
  have hp : ∀ (R : Fin 1024) (k : Fin 32) (z : Fin 1), places (firsts X) (ix3 R k z : S1024x32x1.Idx)
      = BitVec.ofNat 32 (rank X R (k.castLE (by decide))).val := fun R k z => places_at _ R k z (Fin.isLt _) (firsts_at X R k)
  have hr : Host.reduce IntOp.andi (inRange (places (firsts X))) (constantI S_ 1 1#1) reducesTo_S1024x32x1_S1024x32_d2 h_S_ (ix2 R k : S1024x32.Idx) = 1#1 := by
    refine reduce_ones _ _ _ _ (fun i => ?_) (fun _ => rfl) _
    have hi : i = (ix3 (i 0) (i 1) (i 2) : S1024x32x1.Idx) := by
      funext b
      match b with
      | ⟨0, _⟩ => rfl
      | ⟨1, _⟩ => rfl
      | ⟨2, _⟩ => rfl
    exact inRange_at _ _ (Fin.isLt _) ((congrArg _ hi).trans (hp (i 0) (i 1) (i 2)))
  refine (select_true _ _ hr).trans ?_
  exact gather_at X _ R k _ (hp R k 0)

/-- A row of the reference's result. -/
theorem refOut_eq (X : FVec Ideal S1024x16384 .f32) (R : Fin 1024) :
    List.ofFn (fun k : Fin 32 => (refOut X (ix2 R k : S1024x32.Idx) : EReal))
      = topList 32 (List.ofFn fun p : Fin 16384 => (X (ix2 R p : S1024x16384.Idx) : EReal)) := by
  have h := Cert.KernelIdeal.Net.topList_sortedFrom_greater (fun p : Fin 16384 => (X (ix2 R p : S1024x16384.Idx) : EReal)) (show 32 ≤ 16384 by decide)
  exact (congrArg List.ofFn (funext fun k => refOut_at X R k)).trans h.symm

end Cert.ReferenceIdeal.Rank

end
-- ==== Proof.Algebraic.lean ====
/-
  THE KERNEL AGREES WITH THE REFERENCE: the sixteen slices are the whole row cut in order, so the topmost 32 of all the slices' entries are the
  topmost 32 of the row, and both programs end with those.
-/
module

public import proofs.«01_k».proof.Proof.Place
public import proofs.«01_k».proof.Proof.Reference
public import proofs.«01_k».proof.Proof.Run
public import proofs.«01_k».proof.Proof.Gen.ReferenceIdeal.Run
public import proofs.«01_k».proof.Defs

@[expose] public section

noncomputable section

namespace Cert.KernelIdeal.Net

open Cert.KernelIdeal Cert.KernelIdeal.Gen Idealize.ShloMosaic Idealize.ShloMosaic.TcCoe Idealize.ShloMosaic.SortNet Idealize.SL.Sem

/-- The whole array's shape. -/
abbrev SX : Shape := Cert.ReferenceIdeal.S1024x16384

/-- Column `p` of device `d`'s slice, in the whole array. -/
def wholeCol (d : Fin 16) (p : Fin 1024) : Fin 16384 := ⟨d.val * 1024 + p.val, by omega⟩

/-- How the whole array's columns are dealt out. -/
def Dealt (m : (ℓ : Loc nD τ sig) → Buf (Elt Ideal) ℓ) (X : FVec Ideal SX .f32) : Prop :=
  ∀ c : Dev nD, m ((c.tc : Thread nD τ).loc main_arg0)
    = Layout.blockN (⟨2, ![1024, 8192]⟩ : Shape) (⟨2, ![1024, 16384]⟩ : Shape) (Layout.meshBlock [2, 2, 4] ![[], [0]] c) X

/-- Which block of the whole array device `c` holds. -/
def block (c : Dev nD) : (b : Fin 2) → Fin (Layout.cutSize [2, 2, 4] ((![[], [0]] : Fin 2 → List Nat) b)) := Layout.meshBlock [2, 2, 4] ![[], [0]] c

theorem block_row (c : Dev nD) : (block c 0).val = 0 := by revert c; decide +kernel

theorem block_col (c : Dev nD) : (block c 1).val = c.val / 8 := by revert c; decide +kernel

/-- What device `c` ranks, in the whole array. -/
theorem sliceRow_whole (m : (ℓ : Loc nD τ sig) → Buf (Elt Ideal) ℓ) (X : FVec Ideal SX .f32) (hX : Dealt m X) (c : Dev nD) (j : Fin 4)
    (r : Fin 256) (p : Fin 1024) : sliceRow m c j r p = X (ix2 (rowOf j r) (wholeCol c p) : SX.Idx) := by
  rw [sliceRow_eq]
  refine (congrFun (hX c) _).trans (congrArg X (funext fun a => Fin.ext ?_))
  match a with
  | ⟨0, _⟩ =>
    show (block c 0).val * 1024 + (256 * j.val + r.val) = 256 * j.val + r.val
    rw [block_row, Nat.zero_mul, Nat.zero_add]
  | ⟨1, _⟩ =>
    show (block c 1).val * 8192 + (1024 * (c.val % 8) + p.val) = c.val * 1024 + p.val
    rw [block_col]
    omega

/-- The slices' rows one after the other are the whole row. -/
theorem slices_row {α : Type} (f : Fin 16384 → α) :
    ((List.finRange 16).flatMap fun d => List.ofFn fun p : Fin 1024 => f (wholeCol d p)) = List.ofFn f := by
  have h := List.ofFn_mul (m := 16) (n := 1024) f
  rw [List.flatMap_def, ← List.ofFn_eq_map]
  exact h.symm

/-- The kernel's result is the reference's. -/
theorem outAt_refOut (m : (ℓ : Loc nD τ sig) → Buf (Elt Ideal) ℓ) (X : FVec Ideal SX .f32) (hX : Dealt m X)
    (hp : Cert.Pre_KernelIdeal_top_distinct_KernelIdeal m) (c : Dev nD) : outAt m c = Cert.ReferenceIdeal.Rank.refOut X := by
  have H : ∀ c j r, TopDistinct (sliceRow m c j r) := fun c j r =>
    topDistinct_of_pre _ (hp c).1 (hp c).2 (rowOf j r) (ownSlice c) _ fun p => (sliceRow_eq m c j r p).symm
  have hrow : ∀ (j : Fin 4) (r : Fin 256), (fun k : Fin 32 => (outAt m c (ix2 (rowOf j r) k) : EReal))
      = fun k : Fin 32 => (Cert.ReferenceIdeal.Rank.refOut X (ix2 (rowOf j r) k) : EReal) := by
    intro j r
    refine List.ofFn_injective ((outAt_eq m H c j r).trans ?_)
    refine (congrArg (topList 32) ?_).trans (Cert.ReferenceIdeal.Rank.refOut_eq X (rowOf j r)).symm
    refine Eq.trans ?_ (slices_row fun p : Fin 16384 => (X (ix2 (rowOf j r) p : SX.Idx) : EReal))
    refine congrArg (fun g => (List.finRange 16).flatMap g) (funext fun d => congrArg List.ofFn (funext fun p => ?_))
    exact sliceRow_whole m X hX d j r p
  funext i
  have hi : i = (ix2 (rowOf ⟨(i 0).val / 256, by have h : (i 0).val < 1024 := (i 0).isLt; omega⟩ ⟨(i 0).val % 256, Nat.mod_lt _ (by decide)⟩) (i 1) : S1024x32.Idx) := by
    funext a
    match a with
    | ⟨0, _⟩ => exact Fin.ext (Nat.div_add_mod _ 256).symm
    | ⟨1, _⟩ => rfl
  exact (congrArg (outAt m c) hi).trans ((congrFun (hrow _ _) (i 1)).trans (congrArg (Cert.ReferenceIdeal.Rank.refOut X) hi.symm))

theorem algebraic : Cert.algebraic_KernelIdeal_ReferenceIdeal_pre_top_distinct_KernelIdeal := fun m g m' g' hp hX =>
  ⟨Cert.ReferenceIdeal.Rank.refOut (m' (((0 : Dev Cert.ReferenceIdeal.nD).tc : Thread Cert.ReferenceIdeal.nD Cert.ReferenceIdeal.τ).loc Cert.ReferenceIdeal.main_arg0)),
    (θ_run defs _ _).mono (fun _ h c => ⟨(h c).1.trans (outAt_refOut m _ hX hp c), (h c).2⟩) (run_value m g),
    (θ_run Cert.ReferenceIdeal.defs _ _).mono (fun _ h => h 0) (Cert.ReferenceIdeal.Value.run (F := Ideal) m' g')⟩

end Cert.KernelIdeal.Net

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import proofs.«01_k».proof.Proof.Gen.Pre_top_distinct_KernelIdeal
public import proofs.«01_k».proof.Proof.Gen.Pre_top_distinct_ReferenceIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_top_distinct_KernelIdeal.Gen.facts, Cert.Pre_top_distinct_ReferenceIdeal.Gen.facts,
  Cert.KernelIdeal.Net.frame_kernel, Cert.KernelIdeal.Net.frame_ideal, Cert.KernelIdeal.Net.frame_ideal_pre,
  Cert.KernelIdeal.Net.frame_reference, Cert.KernelIdeal.Net.frame_reference_pre, trivial, Cert.KernelIdeal.Net.algebraic⟩

end Cert.Proof

end
